-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_qk [hPre_finite_qk : Cert.Pre_finite_qk.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_qk.fn (F := Ideal) (m ((c.tc : Thread Cert.Kernel22Ideal.nD Cert.Kernel22Ideal.τ).loc Cert.Kernel22Ideal.main_arg0))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_qk [hPre_finite_qk : Cert.Pre_finite_qk.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_qk.fn (F := Ideal) (m ((c.tc : Thread Cert.Reference22Ideal.nD Cert.Reference22Ideal.τ).loc Cert.Reference22Ideal.main_arg0))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Kernel22Ideal_pre_finite_qk [hKernel22Ideal : Cert.Kernel22Ideal.Facts] [hPre_finite_qk : Cert.Pre_finite_qk.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_qk m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def quiescent_Reference22Ideal_pre_finite_qk [hReference22Ideal : Cert.Reference22Ideal.Facts] [hPre_finite_qk : Cert.Pre_finite_qk.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_qk m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def preserves_Kernel_KernelIdeal : Prop :=
  True

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v5) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v32) = v0 c
          ∧ r.2.mem ((c.tc : Thread Cert.Reference18Ideal.nD Cert.Reference18Ideal.τ).loc Cert.Reference18Ideal.main_v35) = v1 c
          ∧ r.2.mem ((c.tc : Thread Cert.Reference18Ideal.nD Cert.Reference18Ideal.τ).loc Cert.Reference18Ideal.main_v38) = v2 c
          ∧ r.2.mem ((c.tc : Thread Cert.Reference18Ideal.nD Cert.Reference18Ideal.τ).loc Cert.Reference18Ideal.main_v41) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v32) = v0 c
          ∧ r.2.mem ((c.tc : Thread Cert.Reference19Ideal.nD Cert.Reference19Ideal.τ).loc Cert.Reference19Ideal.main_v35) = v1 c
          ∧ r.2.mem ((c.tc : Thread Cert.Reference19Ideal.nD Cert.Reference19Ideal.τ).loc Cert.Reference19Ideal.main_v38) = v2 c
          ∧ r.2.mem ((c.tc : Thread Cert.Reference19Ideal.nD Cert.Reference19Ideal.τ).loc Cert.Reference19Ideal.main_v41) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v32) = v0 c
          ∧ r.2.mem ((c.tc : Thread Cert.Reference20Ideal.nD Cert.Reference20Ideal.τ).loc Cert.Reference20Ideal.main_v35) = v1 c
          ∧ r.2.mem ((c.tc : Thread Cert.Reference20Ideal.nD Cert.Reference20Ideal.τ).loc Cert.Reference20Ideal.main_v38) = v2 c
          ∧ r.2.mem ((c.tc : Thread Cert.Reference20Ideal.nD Cert.Reference20Ideal.τ).loc Cert.Reference20Ideal.main_v41) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v32) = v0 c
          ∧ r.2.mem ((c.tc : Thread Cert.Reference21Ideal.nD Cert.Reference21Ideal.τ).loc Cert.Reference21Ideal.main_v35) = v1 c
          ∧ r.2.mem ((c.tc : Thread Cert.Reference21Ideal.nD Cert.Reference21Ideal.τ).loc Cert.Reference21Ideal.main_v38) = v2 c
          ∧ r.2.mem ((c.tc : Thread Cert.Reference21Ideal.nD Cert.Reference21Ideal.τ).loc Cert.Reference21Ideal.main_v41) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7))

def preserves_Kernel22_Kernel22Ideal : Prop :=
  True

def algebraic_Kernel22Ideal_Reference22Ideal_pre_finite_qk [hKernel22Ideal : Cert.Kernel22Ideal.Facts] [hReference22Ideal : Cert.Reference22Ideal.Facts] [hPre_finite_qk : Cert.Pre_finite_qk.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_qk m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v27) = v0 c
          ∧ r.2.mem ((c.tc : Thread Cert.Reference22Ideal.nD Cert.Reference22Ideal.τ).loc Cert.Reference22Ideal.main_v31) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v15) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v14) = v0 c
          ∧ r.2.mem ((c.tc : Thread Cert.Reference24Ideal.nD Cert.Reference24Ideal.τ).loc Cert.Reference24Ideal.main_v15) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v38) = v0 c
          ∧ r.2.mem ((c.tc : Thread Cert.Reference25Ideal.nD Cert.Reference25Ideal.τ).loc Cert.Reference25Ideal.main_v39) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v12) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v45) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def Claim : Prop :=
  ∃ (hKernel : Cert.Kernel.Facts) (hKernelIdeal : Cert.KernelIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite_qk : Cert.Pre_finite_qk.Facts),
    quiescent_Kernel (hKernel := hKernel)
    ∧ quiescent_KernelIdeal (hKernelIdeal := hKernelIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite_qk (hKernel22Ideal := hKernel22Ideal) (hPre_finite_qk := hPre_finite_qk)
    ∧ quiescent_Reference22Ideal (hReference22Ideal := hReference22Ideal)
    ∧ quiescent_Reference22Ideal_pre_finite_qk (hReference22Ideal := hReference22Ideal) (hPre_finite_qk := hPre_finite_qk)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite_qk (hKernel22Ideal := hKernel22Ideal) (hReference22Ideal := hReference22Ideal) (hPre_finite_qk := hPre_finite_qk)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite_qk.lean ====
abbrev S2048x1536 : Shape := ⟨2, ![2048, 1536]⟩
abbrev S2048x1024 : Shape := ⟨2, ![2048, 1024]⟩
abbrev S_ : Shape := ⟨0, ![]⟩

class Facts : Prop where
  slices_S2048x1536_S2048x1024_0_0 : S2048x1536.Slices ![0, 0] S2048x1024
  bitsLt_bf16_f32 : FTy.bits .bf16 < FTy.bits .f32
  bcast_S_S2048x1024 : S_.BroadcastsInDim S2048x1024 (![] : Fin 0 → Fin S2048x1024.rank)

variable [Facts]

def fn {F : FTy → Type} [FloatOps F] (main_arg0 : FVec F S2048x1536 .bf16) : IVec S2048x1024 1 :=
  let main_v0 : FVec F S2048x1024 .bf16 := (extractStridedSlice S2048x1024 ![0, 0] · slices_S2048x1536_S2048x1024_0_0) main_arg0
  let main_v1 : FVec F S2048x1024 .f32 := (extf .f32 · bitsLt_bf16_f32) main_v0
  let main_v2 : FVec F S2048x1024 .f32 := Host.absf main_v1
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  main_v4
-- ==== Kernel.lean ====
abbrev S2048x1536 : Shape := ⟨2, ![2048, 1536]⟩
abbrev S2048x1024 : Shape := ⟨2, ![2048, 1024]⟩
abbrev S2048x512 : Shape := ⟨2, ![2048, 512]⟩
abbrev S1024x128 : Shape := ⟨2, ![1024, 128]⟩
abbrev S2048x128 : Shape := ⟨2, ![2048, 128]⟩
abbrev S1024x256 : Shape := ⟨2, ![1024, 256]⟩
abbrev S128x128 : Shape := ⟨2, ![128, 128]⟩
abbrev S128x256 : Shape := ⟨2, ![128, 256]⟩
abbrev S256x256 : Shape := ⟨2, ![256, 256]⟩
abbrev S256x128 : Shape := ⟨2, ![256, 128]⟩

abbrev nBuf : Space → Nat
  | .hbm => 6
  | .vmem => 16
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x256, .f32⟩
  | .local _ .vmem, ⟨7, _⟩ => ⟨S1024x256, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

@[reducible] def k0_t1_loop (i : grid0.Coords) : Scf.Loop 32 :=
  let c0_i32_60 : BitVec 32 := 0#32
  let c8_i32 : BitVec 32 := 8#32
  let arg1 : BitVec 32 := BitVec.ofNat 32 (i 1).val
  let v123 : BitVec 32 := Scalar.muli c8_i32 arg1
  let v124 : BitVec 32 := Scalar.subi v123 c0_i32_60
  let c1_i32 : BitVec 32 := 1#32
  let v126 : BitVec 32 := Scalar.divsi v124 c1_i32
  let v127 : BitVec 32 := Scalar.muli v126 c1_i32
  let v128 : BitVec 32 := Scalar.addi c0_i32_60 v127
  let c1_i32_61 : BitVec 32 := 1#32
  ⟨c0_i32_60, v128, c1_i32_61⟩
def k0_mult1 (i : grid0.Coords) (k0_t1 : Fin (k0_t1_loop i).trips) : BitVec 32 :=
  let c0_i32_60 : BitVec 32 := 0#32
  let c1_i32_61 : BitVec 32 := 1#32
  let arg10 : BitVec 32 := Scf.iv c0_i32_60 c1_i32_61 k0_t1
  let c128_i32_688 : BitVec 32 := 128#32
  let v3315 : BitVec 32 := Scalar.muli arg10 c128_i32_688
  v3315
def k0_off1 (i : grid0.Coords) (k0_t1 : Fin (k0_t1_loop i).trips) : Fin 2 → Nat :=
  let c0_i32_60 : BitVec 32 := 0#32
  let c1_i32_61 : BitVec 32 := 1#32
  let arg10 : BitVec 32 := Scf.iv c0_i32_60 c1_i32_61 k0_t1
  let c128_i32_688 : BitVec 32 := 128#32
  let v3315 : BitVec 32 := Scalar.muli arg10 c128_i32_688
  let v3316 : BitVec 32 := v3315
  let v3317 : Index := Scalar.indexCast v3316
  let c0_689 : Index := 0#32
  ![v3317.toNat, 0]
@[reducible] def k0_t2_loop (i : grid0.Coords) : Scf.Loop 32 :=
  let c0_i32_60 : BitVec 32 := 0#32
  let c8_i32 : BitVec 32 := 8#32
  let arg1 : BitVec 32 := BitVec.ofNat 32 (i 1).val
  let v123 : BitVec 32 := Scalar.muli c8_i32 arg1
  let v124 : BitVec 32 := Scalar.subi v123 c0_i32_60
  let c1_i32 : BitVec 32 := 1#32
  let v126 : BitVec 32 := Scalar.divsi v124 c1_i32
  let v127 : BitVec 32 := Scalar.muli v126 c1_i32
  let v128 : BitVec 32 := Scalar.addi c0_i32_60 v127
  let v125 : BitVec 32 := Scalar.addi c0_i32_60 v124
  let c1_i32_62 : BitVec 32 := 1#32
  ⟨v128, v125, c1_i32_62⟩
def k0_mult2 (i : grid0.Coords) (k0_t2 : Fin (k0_t2_loop i).trips) : BitVec 32 :=
  let c0_i32_60 : BitVec 32 := 0#32
  let c8_i32 : BitVec 32 := 8#32
  let arg1 : BitVec 32 := BitVec.ofNat 32 (i 1).val
  let v123 : BitVec 32 := Scalar.muli c8_i32 arg1
  let v124 : BitVec 32 := Scalar.subi v123 c0_i32_60
  let c1_i32 : BitVec 32 := 1#32
  let v126 : BitVec 32 := Scalar.divsi v124 c1_i32
  let v127 : BitVec 32 := Scalar.muli v126 c1_i32
  let v128 : BitVec 32 := Scalar.addi c0_i32_60 v127
  let c1_i32_62 : BitVec 32 := 1#32
  let arg10 : BitVec 32 := Scf.iv v128 c1_i32_62 k0_t2
  let c128_i32_688 : BitVec 32 := 128#32
  let v3315 : BitVec 32 := Scalar.muli arg10 c128_i32_688
  v3315
def k0_off2 (i : grid0.Coords) (k0_t2 : Fin (k0_t2_loop i).trips) : Fin 2 → Nat :=
  let c0_i32_60 : BitVec 32 := 0#32
  let c8_i32 : BitVec 32 := 8#32
  let arg1 : BitVec 32 := BitVec.ofNat 32 (i 1).val
  let v123 : BitVec 32 := Scalar.muli c8_i32 arg1
  let v124 : BitVec 32 := Scalar.subi v123 c0_i32_60
  let c1_i32 : BitVec 32 := 1#32
  let v126 : BitVec 32 := Scalar.divsi v124 c1_i32
  let v127 : BitVec 32 := Scalar.muli v126 c1_i32
  let v128 : BitVec 32 := Scalar.addi c0_i32_60 v127
  let c1_i32_62 : BitVec 32 := 1#32
  let arg10 : BitVec 32 := Scf.iv v128 c1_i32_62 k0_t2
  let c128_i32_688 : BitVec 32 := 128#32
  let v3315 : BitVec 32 := Scalar.muli arg10 c128_i32_688
  let v3316 : BitVec 32 := v3315
  let v3317 : Index := Scalar.indexCast v3316
  let c0_689 : Index := 0#32
  ![v3317.toNat, 0]
def k0_mult3 (i : grid0.Coords) : BitVec 32 :=
  let c8_i32_63 : BitVec 32 := 8#32
  let arg1 : BitVec 32 := BitVec.ofNat 32 (i 1).val
  let v131 : BitVec 32 := Scalar.muli c8_i32_63 arg1
  let c0_i32_64 : BitVec 32 := 0#32
  let v132 : BitVec 32 := Scalar.addi v131 c0_i32_64
  let c128_i32 : BitVec 32 := 128#32
  let v133 : BitVec 32 := Scalar.muli v132 c128_i32
  v133
def k0_off3 (i : grid0.Coords) (c0_i32_64 : BitVec 32) : Fin 2 → Nat :=
  let c8_i32_63 : BitVec 32 := 8#32
  let arg1 : BitVec 32 := BitVec.ofNat 32 (i 1).val
  let v131 : BitVec 32 := Scalar.muli c8_i32_63 arg1
  let v132 : BitVec 32 := Scalar.addi v131 c0_i32_64
  let c128_i32 : BitVec 32 := 128#32
  let v133 : BitVec 32 := Scalar.muli v132 c128_i32
  let v134 : BitVec 32 := v133
  let v135 : Index := Scalar.indexCast v134
  let c0_65 : Index := 0#32
  ![v135.toNat, 0]
def k0_mult4 (i : grid0.Coords) : BitVec 32 :=
  let c8_i32_188 : BitVec 32 := 8#32
  let arg1 : BitVec 32 := BitVec.ofNat 32 (i 1).val
  let v815 : BitVec 32 := Scalar.muli c8_i32_188 arg1
  let c1_i32_189 : BitVec 32 := 1#32
  let v816 : BitVec 32 := Scalar.addi v815 c1_i32_189
  let c128_i32_190 : BitVec 32 := 128#32
  let v817 : BitVec 32 := Scalar.muli v816 c128_i32_190
  v817
def k0_mult5 (i : grid0.Coords) : BitVec 32 :=
  let c8_i32_300 : BitVec 32 := 8#32
  let arg1 : BitVec 32 := BitVec.ofNat 32 (i 1).val
  let v1417 : BitVec 32 := Scalar.muli c8_i32_300 arg1
  let c2_i32 : BitVec 32 := 2#32
  let v1418 : BitVec 32 := Scalar.addi v1417 c2_i32
  let c128_i32_301 : BitVec 32 := 128#32
  let v1419 : BitVec 32 := Scalar.muli v1418 c128_i32_301
  v1419
def k0_mult6 (i : grid0.Coords) : BitVec 32 :=
  let c8_i32_397 : BitVec 32 := 8#32
  let arg1 : BitVec 32 := BitVec.ofNat 32 (i 1).val
  let v1937 : BitVec 32 := Scalar.muli c8_i32_397 arg1
  let c3_i32 : BitVec 32 := 3#32
  let v1938 : BitVec 32 := Scalar.addi v1937 c3_i32
  let c128_i32_398 : BitVec 32 := 128#32
  let v1939 : BitVec 32 := Scalar.muli v1938 c128_i32_398
  v1939
def k0_mult7 (i : grid0.Coords) : BitVec 32 :=
  let c8_i32_480 : BitVec 32 := 8#32
  let arg1 : BitVec 32 := BitVec.ofNat 32 (i 1).val
  let v2375 : BitVec 32 := Scalar.muli c8_i32_480 arg1
  let c4_i32 : BitVec 32 := 4#32
  let v2376 : BitVec 32 := Scalar.addi v2375 c4_i32
  let c128_i32_481 : BitVec 32 := 128#32
  let v2377 : BitVec 32 := Scalar.muli v2376 c128_i32_481
  v2377
def k0_mult8 (i : grid0.Coords) : BitVec 32 :=
  let c8_i32_549 : BitVec 32 := 8#32
  let arg1 : BitVec 32 := BitVec.ofNat 32 (i 1).val
  let v2731 : BitVec 32 := Scalar.muli c8_i32_549 arg1
  let c5_i32 : BitVec 32 := 5#32
  let v2732 : BitVec 32 := Scalar.addi v2731 c5_i32
  let c128_i32_550 : BitVec 32 := 128#32
  let v2733 : BitVec 32 := Scalar.muli v2732 c128_i32_550
  v2733
def k0_mult9 (i : grid0.Coords) : BitVec 32 :=
  let c8_i32_604 : BitVec 32 := 8#32
  let arg1 : BitVec 32 := BitVec.ofNat 32 (i 1).val
  let v3005 : BitVec 32 := Scalar.muli c8_i32_604 arg1
  let c6_i32 : BitVec 32 := 6#32
  let v3006 : BitVec 32 := Scalar.addi v3005 c6_i32
  let c128_i32_605 : BitVec 32 := 128#32
  let v3007 : BitVec 32 := Scalar.muli v3006 c128_i32_605
  v3007
def k0_mult10 (i : grid0.Coords) : BitVec 32 :=
  let c8_i32_645 : BitVec 32 := 8#32
  let arg1 : BitVec 32 := BitVec.ofNat 32 (i 1).val
  let v3197 : BitVec 32 := Scalar.muli c8_i32_645 arg1
  let c7_i32 : BitVec 32 := 7#32
  let v3198 : BitVec 32 := Scalar.addi v3197 c7_i32
  let c128_i32_646 : BitVec 32 := 128#32
  let v3199 : BitVec 32 := Scalar.muli v3198 c128_i32_646
  v3199
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel3.lean ====
abbrev S2048x5632 : Shape := ⟨2, ![2048, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 6
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S4x1024x1408, .bf16⟩
  | .hbm, ⟨5, _⟩ => ⟨S2048x1024, .f32⟩
  | .local _ .vmem, ⟨0, _⟩ => ⟨S2048x1408, .bf16⟩
  | .local _ .vmem, ⟨1, _⟩ => ⟨S2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .ne arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S2048x5632 : Shape := ⟨2, ![2048, 5632]⟩
abbrev S1024x5632 : Shape := ⟨2, ![1024, 5632]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .f32⟩
  | .hbm, ⟨2, _⟩ => ⟨S_, .f32⟩
  | .hbm, ⟨3, _⟩ => ⟨S2048x1024, .f32⟩
  | .hbm, ⟨4, _⟩ => ⟨S2048x5632, .f32⟩
  | .hbm, ⟨5, _⟩ => ⟨S2048x5632, .f32⟩
  | .hbm, ⟨6, _⟩ => ⟨S2048x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2048x1024 : Shape := ⟨2, ![2048, 1024]⟩
abbrev S2048x5632 : Shape := ⟨2, ![2048, 5632]⟩
abbrev S4x1024x1408 : Shape := ⟨3, ![4, 1024, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S4x1024x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .bf16⟩
  | .local _ .vmem, ⟨5, _⟩ => ⟨S1x512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S_, .f32⟩
  | .hbm, ⟨3, _⟩ => ⟨S1024x5632, .f32⟩
  | .hbm, ⟨4, _⟩ => ⟨S2048x1024, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .f32⟩
  | .local _ .vmem, ⟨3, _⟩ => ⟨S2048x512, .f32⟩
  | .local _ .vmem, ⟨4, _⟩ => ⟨S1408x512, .bf16⟩
  | .local _ .vmem, ⟨5, _⟩ => ⟨S1408x512, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x2560 : Shape := ⟨2, ![2048, 2560]⟩
abbrev S1024x2560 : Shape := ⟨2, ![1024, 2560]⟩
abbrev S1024x4x640 : Shape := ⟨3, ![1024, 4, 640]⟩
abbrev S4x1024x640 : Shape := ⟨3, ![4, 1024, 640]⟩
abbrev S2048x1024 : Shape := ⟨2, ![2048, 1024]⟩
abbrev S2048x640 : Shape := ⟨2, ![2048, 640]⟩
abbrev S1x1024x640 : Shape := ⟨3, ![1, 1024, 640]⟩
abbrev S1024x640 : Shape := ⟨2, ![1024, 640]⟩

abbrev nBuf : Space → Nat
  | .hbm => 6
  | .vmem => 5
  | .smem => 0
  | _ => 0

abbrev bufTy : (tb : Table) → Fin (tcTables nBuf tb) → BufTy
  | .hbm, ⟨0, _⟩ => ⟨S2048x2560, .bf16⟩
  | .hbm, ⟨1, _⟩ => ⟨S1024x2560, .f32⟩
  | .hbm, ⟨2, _⟩ => ⟨S1024x4x640, .f32⟩
  | .hbm, ⟨3, _⟩ => ⟨S4x1024x640, .f32⟩
  | .hbm, ⟨4, _⟩ => ⟨S4x1024x640, .bf16⟩
  | .hbm, ⟨5, _⟩ => ⟨S2048x1024, .f32⟩
  | .local _ .vmem, ⟨0, _⟩ => ⟨S2048x640, .bf16⟩
  | .local _ .vmem, ⟨1, _⟩ => ⟨S2048x640, .bf16⟩
  | .local _ .vmem, ⟨2, _⟩ => ⟨S1x1024x640, .bf16⟩
  | .local _ .vmem, ⟨3, _⟩ => ⟨S1x1024x640, .bf16⟩
  | .local _ .vmem, ⟨4, _⟩ => ⟨S2048x1024, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .ne arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S2048x2560 : Shape := ⟨2, ![2048, 2560]⟩
abbrev S1024x2560 : Shape := ⟨2, ![1024, 2560]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S1024x2560, .f32⟩
  | .hbm, ⟨2, _⟩ => ⟨S_, .f32⟩
  | .hbm, ⟨3, _⟩ => ⟨S2048x1024, .f32⟩
  | .hbm, ⟨4, _⟩ => ⟨S2048x2560, .f32⟩
  | .hbm, ⟨5, _⟩ => ⟨S2048x2560, .f32⟩
  | .hbm, ⟨6, _⟩ => ⟨S2048x1024, .f32⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S2048x1024 : Shape := ⟨2, ![2048, 1024]⟩
abbrev S2048x2560 : Shape := ⟨2, ![2048, 2560]⟩
abbrev S4x1024x640 : Shape := ⟨3, ![4, 1024, 640]⟩
abbrev S2048x640 : Shape := ⟨2, ![2048, 640]⟩
abbrev S1x1024x640 : Shape := ⟨3, ![1, 1024, 640]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2560, .bf16⟩
  | .hbm, ⟨2, _⟩ => ⟨S4x1024x640, .bf16⟩
  | .local _ .vmem, ⟨0, _⟩ => ⟨S2048x1024, .bf16⟩
  | .local _ .vmem, ⟨1, _⟩ => ⟨S2048x640, .bf16⟩
  | .local _ .vmem, ⟨2, _⟩ => ⟨S2048x640, .bf16⟩
  | .local _ .vmem, ⟨3, _⟩ => ⟨S1x1024x640, .bf16⟩
  | .local _ .vmem, ⟨4, _⟩ => ⟨S1x1024x640, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x1024 : Shape := ⟨2, ![2048, 1024]⟩
abbrev S2048x2560 : Shape := ⟨2, ![2048, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2560, .bf16⟩
  | .hbm, ⟨2, _⟩ => ⟨S_, .f32⟩
  | .hbm, ⟨3, _⟩ => ⟨S1024x2560, .f32⟩
  | .hbm, ⟨4, _⟩ => ⟨S2048x1024, .f32⟩
  | .hbm, ⟨5, _⟩ => ⟨S2048x2560, .f32⟩
  | .hbm, ⟨6, _⟩ => ⟨S2048x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | .hbm, ⟨11, _⟩ => ⟨S4x1024x640, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .bf16⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2048x1024 : Shape := ⟨2, ![2048, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x2816 : Shape := ⟨2, ![2048, 2816]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S4x1024x1408, .bf16⟩
  | .hbm, ⟨5, _⟩ => ⟨S2048x2816, .bf16⟩
  | .hbm, ⟨6, _⟩ => ⟨S2048x2816, .bf16⟩
  | .hbm, ⟨7, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .f32⟩
  | .hbm, ⟨2, _⟩ => ⟨S2048x1024, .f32⟩
  | .hbm, ⟨3, _⟩ => ⟨S2048x5632, .f32⟩
  | .hbm, ⟨4, _⟩ => ⟨S2048x2816, .f32⟩
  | .hbm, ⟨5, _⟩ => ⟨S2048x2816, .f32⟩
  | .hbm, ⟨6, _⟩ => ⟨S2048x2816, .bf16⟩
  | .hbm, ⟨7, _⟩ => ⟨S2048x2816, .bf16⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel14.lean ====
abbrev S2048x1024 : Shape := ⟨2, ![2048, 1024]⟩
abbrev S1024x2560 : Shape := ⟨2, ![1024, 2560]⟩
abbrev S1024x4x640 : Shape := ⟨3, ![1024, 4, 640]⟩
abbrev S4x1024x640 : Shape := ⟨3, ![4, 1024, 640]⟩
abbrev S2048x2560 : Shape := ⟨2, ![2048, 2560]⟩
abbrev S1x1024x640 : Shape := ⟨3, ![1, 1024, 640]⟩
abbrev S2048x640 : Shape := ⟨2, ![2048, 640]⟩
abbrev S1024x640 : Shape := ⟨2, ![1024, 640]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x2560, .f32⟩
  | .hbm, ⟨2, _⟩ => ⟨S1024x4x640, .f32⟩
  | .hbm, ⟨3, _⟩ => ⟨S4x1024x640, .f32⟩
  | .hbm, ⟨4, _⟩ => ⟨S4x1024x640, .bf16⟩
  | .hbm, ⟨5, _⟩ => ⟨S2048x2560, .f32⟩
  | .local _ .vmem, ⟨0, _⟩ => ⟨S2048x1024, .bf16⟩
  | .local _ .vmem, ⟨1, _⟩ => ⟨S1x1024x640, .bf16⟩
  | .local _ .vmem, ⟨2, _⟩ => ⟨S1x1024x640, .bf16⟩
  | .local _ .vmem, ⟨3, _⟩ => ⟨S2048x640, .f32⟩
  | .local _ .vmem, ⟨4, _⟩ => ⟨S2048x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x1024 : Shape := ⟨2, ![2048, 1024]⟩
abbrev S1024x2560 : Shape := ⟨2, ![1024, 2560]⟩
abbrev S2048x2560 : Shape := ⟨2, ![2048, 2560]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2560, .f32⟩
  | .hbm, ⟨2, _⟩ => ⟨S2048x1024, .f32⟩
  | .hbm, ⟨3, _⟩ => ⟨S2048x2560, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S2048x2816 : Shape := ⟨2, ![2048, 2816]⟩
abbrev S2816x1024 : Shape := ⟨2, ![2816, 1024]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2816x1024, .bf16⟩
  | .hbm, ⟨4, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2048x2816, .f32⟩
  | .hbm, ⟨4, _⟩ => ⟨S2048x1024, .f32⟩
  | .hbm, ⟨5, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1024x1024, .bf16⟩
  | .hbm, ⟨4, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S2272x128 : Shape := ⟨2, ![2272, 128]⟩

abbrev nBuf : Space → Nat
  | .hbm => 7
  | .vmem => 7
  | .smem => 0
  | _ => 0

abbrev bufTy : (tb : Table) → Fin (tcTables nBuf tb) → BufTy
  | .hbm, ⟨0, _⟩ => ⟨S2272x128, .f32⟩
  | .hbm, ⟨1, _⟩ => ⟨S2272x128, .f32⟩
  | .hbm, ⟨2, _⟩ => ⟨S2272x128, .f32⟩
  | .hbm, ⟨3, _⟩ => ⟨S2272x128, .f32⟩
  | .hbm, ⟨4, _⟩ => ⟨S2272x128, .f32⟩
  | .hbm, ⟨5, _⟩ => ⟨S2272x128, .f32⟩
  | .hbm, ⟨6, _⟩ => ⟨S2272x128, .f32⟩
  | .local _ .vmem, ⟨0, _⟩ => ⟨S2272x128, .f32⟩
  | .local _ .vmem, ⟨1, _⟩ => ⟨S2272x128, .f32⟩
  | .local _ .vmem, ⟨2, _⟩ => ⟨S2272x128, .f32⟩
  | .local _ .vmem, ⟨3, _⟩ => ⟨S2272x128, .f32⟩
  | .local _ .vmem, ⟨4, _⟩ => ⟨S2272x128, .f32⟩
  | .local _ .vmem, ⟨5, _⟩ => ⟨S2272x128, .f32⟩
  | .local _ .vmem, ⟨6, _⟩ => ⟨S2272x128, .f32⟩
  | _, _ => ⟨S2272x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2272x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2272x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2272x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2272x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2272x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2272x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2272x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference17Ideal.lean ====
abbrev S2272x128 : Shape := ⟨2, ![2272, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2272x128, .f32⟩
  | .hbm, ⟨1, _⟩ => ⟨S2272x128, .f32⟩
  | .hbm, ⟨2, _⟩ => ⟨S2272x128, .f32⟩
  | .hbm, ⟨3, _⟩ => ⟨S2272x128, .f32⟩
  | .hbm, ⟨4, _⟩ => ⟨S_, .f32⟩
  | .hbm, ⟨5, _⟩ => ⟨S2272x128, .f32⟩
  | .hbm, ⟨6, _⟩ => ⟨S2272x128, .f32⟩
  | .hbm, ⟨7, _⟩ => ⟨S_, .f32⟩
  | .hbm, ⟨8, _⟩ => ⟨S2272x128, .f32⟩
  | .hbm, ⟨9, _⟩ => ⟨S2272x128, .f32⟩
  | .hbm, ⟨10, _⟩ => ⟨S2272x128, .f32⟩
  | .hbm, ⟨11, _⟩ => ⟨S_, .f32⟩
  | .hbm, ⟨12, _⟩ => ⟨S2272x128, .f32⟩
  | .hbm, ⟨13, _⟩ => ⟨S2272x128, .f32⟩
  | .hbm, ⟨14, _⟩ => ⟨S2272x128, .f32⟩
  | .hbm, ⟨15, _⟩ => ⟨S_, .f32⟩
  | .hbm, ⟨16, _⟩ => ⟨S2272x128, .f32⟩
  | .hbm, ⟨17, _⟩ => ⟨S2272x128, .f32⟩
  | .hbm, ⟨18, _⟩ => ⟨S2272x128, .f32⟩
  | .hbm, ⟨19, _⟩ => ⟨S_, .f32⟩
  | .hbm, ⟨20, _⟩ => ⟨S2272x128, .f32⟩
  | .hbm, ⟨21, _⟩ => ⟨S2272x128, .f32⟩
  | .hbm, ⟨22, _⟩ => ⟨S_, .f32⟩
  | .hbm, ⟨23, _⟩ => ⟨S2272x128, .f32⟩
  | .hbm, ⟨24, _⟩ => ⟨S2272x128, .f32⟩
  | .hbm, ⟨25, _⟩ => ⟨S2272x128, .f32⟩
  | .hbm, ⟨26, _⟩ => ⟨S_, .f32⟩
  | .hbm, ⟨27, _⟩ => ⟨S2272x128, .f32⟩
  | .hbm, ⟨28, _⟩ => ⟨S2272x128, .f32⟩
  | .hbm, ⟨29, _⟩ => ⟨S2272x128, .f32⟩
  | .hbm, ⟨30, _⟩ => ⟨S_, .f32⟩
  | .hbm, ⟨31, _⟩ => ⟨S2272x128, .f32⟩
  | .hbm, ⟨32, _⟩ => ⟨S2272x128, .f32⟩
  | .hbm, ⟨33, _⟩ => ⟨S2272x128, .f32⟩
  | .hbm, ⟨34, _⟩ => ⟨S_, .f32⟩
  | .hbm, ⟨35, _⟩ => ⟨S2272x128, .f32⟩
  | .hbm, ⟨36, _⟩ => ⟨S2272x128, .f32⟩
  | _, _ => ⟨S2272x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S4x1024x640 : Shape := ⟨3, ![4, 1024, 640]⟩
abbrev S1024x640 : Shape := ⟨2, ![1024, 640]⟩
abbrev S1x512x640 : Shape := ⟨3, ![1, 512, 640]⟩
abbrev S512x640 : Shape := ⟨2, ![512, 640]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x640, .f32⟩
  | .hbm, ⟨1, _⟩ => ⟨S4x1024x640, .f32⟩
  | .hbm, ⟨2, _⟩ => ⟨S4x1024x640, .f32⟩
  | .hbm, ⟨3, _⟩ => ⟨S1024x640, .f32⟩
  | .hbm, ⟨4, _⟩ => ⟨S4x1024x640, .f32⟩
  | .hbm, ⟨5, _⟩ => ⟨S4x1024x640, .f32⟩
  | .hbm, ⟨6, _⟩ => ⟨S4x1024x640, .f32⟩
  | .hbm, ⟨7, _⟩ => ⟨S4x1024x640, .f32⟩
  | .hbm, ⟨8, _⟩ => ⟨S4x1024x640, .f32⟩
  | .hbm, ⟨9, _⟩ => ⟨S4x1024x640, .f32⟩
  | .hbm, ⟨10, _⟩ => ⟨S4x1024x640, .f32⟩
  | .hbm, ⟨11, _⟩ => ⟨S4x1024x640, .f32⟩
  | .local _ .vmem, ⟨0, _⟩ => ⟨S1x512x640, .f32⟩
  | .local _ .vmem, ⟨1, _⟩ => ⟨S1x512x640, .f32⟩
  | .local _ .vmem, ⟨2, _⟩ => ⟨S1x512x640, .f32⟩
  | .local _ .vmem, ⟨3, _⟩ => ⟨S1x512x640, .f32⟩
  | .local _ .vmem, ⟨4, _⟩ => ⟨S1x512x640, .f32⟩
  | .local _ .vmem, ⟨5, _⟩ => ⟨S1x512x640, .f32⟩
  | .local _ .vmem, ⟨6, _⟩ => ⟨S512x640, .f32⟩
  | .local _ .vmem, ⟨7, _⟩ => ⟨S512x640, .f32⟩
  | .local _ .vmem, ⟨8, _⟩ => ⟨S1x512x640, .f32⟩
  | .local _ .vmem, ⟨9, _⟩ => ⟨S1x512x640, .f32⟩
  | .local _ .vmem, ⟨10, _⟩ => ⟨S1x512x640, .f32⟩
  | .local _ .vmem, ⟨11, _⟩ => ⟨S1x512x640, .f32⟩
  | .local _ .vmem, ⟨12, _⟩ => ⟨S1x512x640, .f32⟩
  | .local _ .vmem, ⟨13, _⟩ => ⟨S1x512x640, .f32⟩
  | .local _ .vmem, ⟨14, _⟩ => ⟨S1x512x640, .f32⟩
  | .local _ .vmem, ⟨15, _⟩ => ⟨S1x512x640, .f32⟩
  | _, _ => ⟨S4x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S4x1024x640 : Shape := ⟨3, ![4, 1024, 640]⟩
abbrev S1024x640 : Shape := ⟨2, ![1024, 640]⟩
abbrev S1x1024x640 : Shape := ⟨3, ![1, 1024, 640]⟩
abbrev S_ : Shape := ⟨0, ![]⟩
abbrev S3x1024x640 : Shape := ⟨3, ![3, 1024, 640]⟩

abbrev nBuf : Space → Nat
  | .hbm => 59
  | .vmem => 0
  | .smem => 0
  | _ => 0

abbrev bufTy : (tb : Table) → Fin (tcTables nBuf tb) → BufTy
  | .hbm, ⟨0, _⟩ => ⟨S4x1024x640, .f32⟩
  | .hbm, ⟨1, _⟩ => ⟨S4x1024x640, .f32⟩
  | .hbm, ⟨2, _⟩ => ⟨S4x1024x640, .f32⟩
  | .hbm, ⟨3, _⟩ => ⟨S1024x640, .f32⟩
  | .hbm, ⟨4, _⟩ => ⟨S4x1024x640, .f32⟩
  | .hbm, ⟨5, _⟩ => ⟨S4x1024x640, .f32⟩
  | .hbm, ⟨6, _⟩ => ⟨S4x1024x640, .f32⟩
  | .hbm, ⟨7, _⟩ => ⟨S4x1024x640, .f32⟩
  | .hbm, ⟨8, _⟩ => ⟨S1x1024x640, .f32⟩
  | .hbm, ⟨9, _⟩ => ⟨S1024x640, .f32⟩
  | .hbm, ⟨10, _⟩ => ⟨S1x1024x640, .f32⟩
  | .hbm, ⟨11, _⟩ => ⟨S1024x640, .f32⟩
  | .hbm, ⟨12, _⟩ => ⟨S1x1024x640, .f32⟩
  | .hbm, ⟨13, _⟩ => ⟨S1024x640, .f32⟩
  | .hbm, ⟨14, _⟩ => ⟨S_, .f32⟩
  | .hbm, ⟨15, _⟩ => ⟨S1024x640, .f32⟩
  | .hbm, ⟨16, _⟩ => ⟨S1024x640, .f32⟩
  | .hbm, ⟨17, _⟩ => ⟨S_, .f32⟩
  | .hbm, ⟨18, _⟩ => ⟨S1024x640, .f32⟩
  | .hbm, ⟨19, _⟩ => ⟨S1024x640, .f32⟩
  | .hbm, ⟨20, _⟩ => ⟨S1024x640, .f32⟩
  | .hbm, ⟨21, _⟩ => ⟨S_, .f32⟩
  | .hbm, ⟨22, _⟩ => ⟨S1024x640, .f32⟩
  | .hbm, ⟨23, _⟩ => ⟨S1024x640, .f32⟩
  | .hbm, ⟨24, _⟩ => ⟨S1024x640, .f32⟩
  | .hbm, ⟨25, _⟩ => ⟨S_, .f32⟩
  | .hbm, ⟨26, _⟩ => ⟨S1024x640, .f32⟩
  | .hbm, ⟨27, _⟩ => ⟨S1024x640, .f32⟩
  | .hbm, ⟨28, _⟩ => ⟨S1024x640, .f32⟩
  | .hbm, ⟨29, _⟩ => ⟨S_, .f32⟩
  | .hbm, ⟨30, _⟩ => ⟨S1024x640, .f32⟩
  | .hbm, ⟨31, _⟩ => ⟨S1024x640, .f32⟩
  | .hbm, ⟨32, _⟩ => ⟨S_, .f32⟩
  | .hbm, ⟨33, _⟩ => ⟨S1024x640, .f32⟩
  | .hbm, ⟨34, _⟩ => ⟨S1024x640, .f32⟩
  | .hbm, ⟨35, _⟩ => ⟨S1024x640, .f32⟩
  | .hbm, ⟨36, _⟩ => ⟨S_, .f32⟩
  | .hbm, ⟨37, _⟩ => ⟨S1024x640, .f32⟩
  | .hbm, ⟨38, _⟩ => ⟨S1024x640, .f32⟩
  | .hbm, ⟨39, _⟩ => ⟨S1024x640, .f32⟩
  | .hbm, ⟨40, _⟩ => ⟨S_, .f32⟩
  | .hbm, ⟨41, _⟩ => ⟨S1024x640, .f32⟩
  | .hbm, ⟨42, _⟩ => ⟨S1024x640, .f32⟩
  | .hbm, ⟨43, _⟩ => ⟨S1024x640, .f32⟩
  | .hbm, ⟨44, _⟩ => ⟨S_, .f32⟩
  | .hbm, ⟨45, _⟩ => ⟨S1024x640, .f32⟩
  | .hbm, ⟨46, _⟩ => ⟨S1024x640, .f32⟩
  | .hbm, ⟨47, _⟩ => ⟨S1x1024x640, .f32⟩
  | .hbm, ⟨48, _⟩ => ⟨S3x1024x640, .f32⟩
  | .hbm, ⟨49, _⟩ => ⟨S4x1024x640, .f32⟩
  | .hbm, ⟨50, _⟩ => ⟨S1x1024x640, .f32⟩
  | .hbm, ⟨51, _⟩ => ⟨S3x1024x640, .f32⟩
  | .hbm, ⟨52, _⟩ => ⟨S4x1024x640, .f32⟩
  | .hbm, ⟨53, _⟩ => ⟨S1x1024x640, .f32⟩
  | .hbm, ⟨54, _⟩ => ⟨S3x1024x640, .f32⟩
  | .hbm, ⟨55, _⟩ => ⟨S4x1024x640, .f32⟩
  | .hbm, ⟨56, _⟩ => ⟨S1x1024x640, .f32⟩
  | .hbm, ⟨57, _⟩ => ⟨S3x1024x640, .f32⟩
  | .hbm, ⟨58, _⟩ => ⟨S4x1024x640, .f32⟩
  | _, _ => ⟨S4x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel19.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩
abbrev S3x256x1024 : Shape := ⟨3, ![3, 256, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S1x256x1024, .f32⟩
  | .hbm, ⟨9, _⟩ => ⟨S256x1024, .f32⟩
  | .hbm, ⟨10, _⟩ => ⟨S1x256x1024, .f32⟩
  | .hbm, ⟨11, _⟩ => ⟨S256x1024, .f32⟩
  | .hbm, ⟨12, _⟩ => ⟨S1x256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S1x256x1024, .f32⟩
  | .hbm, ⟨48, _⟩ => ⟨S3x256x1024, .f32⟩
  | .hbm, ⟨49, _⟩ => ⟨S4x256x1024, .f32⟩
  | .hbm, ⟨50, _⟩ => ⟨S1x256x1024, .f32⟩
  | .hbm, ⟨51, _⟩ => ⟨S3x256x1024, .f32⟩
  | .hbm, ⟨52, _⟩ => ⟨S4x256x1024, .f32⟩
  | .hbm, ⟨53, _⟩ => ⟨S1x256x1024, .f32⟩
  | .hbm, ⟨54, _⟩ => ⟨S3x256x1024, .f32⟩
  | .hbm, ⟨55, _⟩ => ⟨S4x256x1024, .f32⟩
  | .hbm, ⟨56, _⟩ => ⟨S1x256x1024, .f32⟩
  | .hbm, ⟨57, _⟩ => ⟨S3x256x1024, .f32⟩
  | .hbm, ⟨58, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel20.lean ====
abbrev S4x1024x1408 : Shape := ⟨3, ![4, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S4x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S4x1024x1408 : Shape := ⟨3, ![4, 1024, 1408]⟩
abbrev S1024x1408 : Shape := ⟨2, ![1024, 1408]⟩
abbrev S1x1024x1408 : Shape := ⟨3, ![1, 1024, 1408]⟩
abbrev S_ : Shape := ⟨0, ![]⟩
abbrev S3x1024x1408 : Shape := ⟨3, ![3, 1024, 1408]⟩

abbrev nBuf : Space → Nat
  | .hbm => 59
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S1x1024x1408, .f32⟩
  | .hbm, ⟨9, _⟩ => ⟨S1024x1408, .f32⟩
  | .hbm, ⟨10, _⟩ => ⟨S1x1024x1408, .f32⟩
  | .hbm, ⟨11, _⟩ => ⟨S1024x1408, .f32⟩
  | .hbm, ⟨12, _⟩ => ⟨S1x1024x1408, .f32⟩
  | .hbm, ⟨13, _⟩ => ⟨S1024x1408, .f32⟩
  | .hbm, ⟨14, _⟩ => ⟨S_, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S1024x1408, .f32⟩
  | .hbm, ⟨25, _⟩ => ⟨S_, .f32⟩
  | .hbm, ⟨26, _⟩ => ⟨S1024x1408, .f32⟩
  | .hbm, ⟨27, _⟩ => ⟨S1024x1408, .f32⟩
  | .hbm, ⟨28, _⟩ => ⟨S1024x1408, .f32⟩
  | .hbm, ⟨29, _⟩ => ⟨S_, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | .hbm, ⟨39, _⟩ => ⟨S1024x1408, .f32⟩
  | .hbm, ⟨40, _⟩ => ⟨S_, .f32⟩
  | .hbm, ⟨41, _⟩ => ⟨S1024x1408, .f32⟩
  | .hbm, ⟨42, _⟩ => ⟨S1024x1408, .f32⟩
  | .hbm, ⟨43, _⟩ => ⟨S1024x1408, .f32⟩
  | .hbm, ⟨44, _⟩ => ⟨S_, .f32⟩
  | .hbm, ⟨45, _⟩ => ⟨S1024x1408, .f32⟩
  | .hbm, ⟨46, _⟩ => ⟨S1024x1408, .f32⟩
  | .hbm, ⟨47, _⟩ => ⟨S1x1024x1408, .f32⟩
  | .hbm, ⟨48, _⟩ => ⟨S3x1024x1408, .f32⟩
  | .hbm, ⟨49, _⟩ => ⟨S4x1024x1408, .f32⟩
  | .hbm, ⟨50, _⟩ => ⟨S1x1024x1408, .f32⟩
  | .hbm, ⟨51, _⟩ => ⟨S3x1024x1408, .f32⟩
  | .hbm, ⟨52, _⟩ => ⟨S4x1024x1408, .f32⟩
  | .hbm, ⟨53, _⟩ => ⟨S1x1024x1408, .f32⟩
  | .hbm, ⟨54, _⟩ => ⟨S3x1024x1408, .f32⟩
  | .hbm, ⟨55, _⟩ => ⟨S4x1024x1408, .f32⟩
  | .hbm, ⟨56, _⟩ => ⟨S1x1024x1408, .f32⟩
  | .hbm, ⟨57, _⟩ => ⟨S3x1024x1408, .f32⟩
  | .hbm, ⟨58, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel21.lean ====
abbrev S4x704x1024 : Shape := ⟨3, ![4, 704, 1024]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S352x1024, .f32⟩
  | .local _ .vmem, ⟨7, _⟩ => ⟨S352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S4x704x1024 : Shape := ⟨3, ![4, 704, 1024]⟩
abbrev S704x1024 : Shape := ⟨2, ![704, 1024]⟩
abbrev S1x704x1024 : Shape := ⟨3, ![1, 704, 1024]⟩
abbrev S_ : Shape := ⟨0, ![]⟩
abbrev S3x704x1024 : Shape := ⟨3, ![3, 704, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S1x704x1024, .f32⟩
  | .hbm, ⟨9, _⟩ => ⟨S704x1024, .f32⟩
  | .hbm, ⟨10, _⟩ => ⟨S1x704x1024, .f32⟩
  | .hbm, ⟨11, _⟩ => ⟨S704x1024, .f32⟩
  | .hbm, ⟨12, _⟩ => ⟨S1x704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S_, .f32⟩
  | .hbm, ⟨41, _⟩ => ⟨S704x1024, .f32⟩
  | .hbm, ⟨42, _⟩ => ⟨S704x1024, .f32⟩
  | .hbm, ⟨43, _⟩ => ⟨S704x1024, .f32⟩
  | .hbm, ⟨44, _⟩ => ⟨S_, .f32⟩
  | .hbm, ⟨45, _⟩ => ⟨S704x1024, .f32⟩
  | .hbm, ⟨46, _⟩ => ⟨S704x1024, .f32⟩
  | .hbm, ⟨47, _⟩ => ⟨S1x704x1024, .f32⟩
  | .hbm, ⟨48, _⟩ => ⟨S3x704x1024, .f32⟩
  | .hbm, ⟨49, _⟩ => ⟨S4x704x1024, .f32⟩
  | .hbm, ⟨50, _⟩ => ⟨S1x704x1024, .f32⟩
  | .hbm, ⟨51, _⟩ => ⟨S3x704x1024, .f32⟩
  | .hbm, ⟨52, _⟩ => ⟨S4x704x1024, .f32⟩
  | .hbm, ⟨53, _⟩ => ⟨S1x704x1024, .f32⟩
  | .hbm, ⟨54, _⟩ => ⟨S3x704x1024, .f32⟩
  | .hbm, ⟨55, _⟩ => ⟨S4x704x1024, .f32⟩
  | .hbm, ⟨56, _⟩ => ⟨S1x704x1024, .f32⟩
  | .hbm, ⟨57, _⟩ => ⟨S3x704x1024, .f32⟩
  | .hbm, ⟨58, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel22.lean ====
abbrev S2048x1536 : Shape := ⟨2, ![2048, 1536]⟩
abbrev S2048x512 : Shape := ⟨2, ![2048, 512]⟩
abbrev S2048x1024 : Shape := ⟨2, ![2048, 1024]⟩
abbrev S1024x128 : Shape := ⟨2, ![1024, 128]⟩
abbrev S2048x128 : Shape := ⟨2, ![2048, 128]⟩
abbrev S1024x256 : Shape := ⟨2, ![1024, 256]⟩
abbrev S128x128 : Shape := ⟨2, ![128, 128]⟩
abbrev S128x256 : Shape := ⟨2, ![128, 256]⟩
abbrev S256x256 : Shape := ⟨2, ![256, 256]⟩
abbrev S256x128 : Shape := ⟨2, ![256, 128]⟩

abbrev nBuf : Space → Nat
  | .hbm => 3
  | .vmem => 10
  | .smem => 0
  | _ => 0

abbrev bufTy : (tb : Table) → Fin (tcTables nBuf tb) → BufTy
  | .hbm, ⟨0, _⟩ => ⟨S2048x1536, .bf16⟩
  | .hbm, ⟨1, _⟩ => ⟨S2048x512, .f32⟩
  | .hbm, ⟨2, _⟩ => ⟨S2048x1024, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .f32⟩
  | .local _ .vmem, ⟨7, _⟩ => ⟨S1024x128, .f32⟩
  | .local _ .vmem, ⟨8, _⟩ => ⟨S1024x256, .f32⟩
  | .local _ .vmem, ⟨9, _⟩ => ⟨S1024x256, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let c8_i32 : BitVec 32 := 8#32
  let arg1 : BitVec 32 := BitVec.ofNat 32 (i 1).val
  let v26 : BitVec 32 := Scalar.muli c8_i32 arg1
  let c7_i32 : BitVec 32 := 7#32
  let v27 : BitVec 32 := Scalar.addi v26 c7_i32
  let c128_i32 : BitVec 32 := 128#32
  let v28 : BitVec 32 := Scalar.muli v27 c128_i32
  v28
def k0_off1 (i : grid0.Coords) (c7_i32 : BitVec 32) : Fin 2 → Nat :=
  let c8_i32 : BitVec 32 := 8#32
  let arg1 : BitVec 32 := BitVec.ofNat 32 (i 1).val
  let v26 : BitVec 32 := Scalar.muli c8_i32 arg1
  let v27 : BitVec 32 := Scalar.addi v26 c7_i32
  let c128_i32 : BitVec 32 := 128#32
  let v28 : BitVec 32 := Scalar.muli v27 c128_i32
  let v29 : BitVec 32 := v28
  let v30 : Index := Scalar.indexCast v29
  let c0_10 : Index := 0#32
  ![v30.toNat, 0]
def k0_mult2 (i : grid0.Coords) : BitVec 32 :=
  let c8_i32_24 : BitVec 32 := 8#32
  let arg1 : BitVec 32 := BitVec.ofNat 32 (i 1).val
  let v86 : BitVec 32 := Scalar.muli c8_i32_24 arg1
  let c6_i32 : BitVec 32 := 6#32
  let v87 : BitVec 32 := Scalar.addi v86 c6_i32
  let c128_i32_25 : BitVec 32 := 128#32
  let v88 : BitVec 32 := Scalar.muli v87 c128_i32_25
  v88
def k0_mult3 (i : grid0.Coords) : BitVec 32 :=
  let c8_i32_48 : BitVec 32 := 8#32
  let arg1 : BitVec 32 := BitVec.ofNat 32 (i 1).val
  let v186 : BitVec 32 := Scalar.muli c8_i32_48 arg1
  let c5_i32 : BitVec 32 := 5#32
  let v187 : BitVec 32 := Scalar.addi v186 c5_i32
  let c128_i32_49 : BitVec 32 := 128#32
  let v188 : BitVec 32 := Scalar.muli v187 c128_i32_49
  v188
def k0_mult4 (i : grid0.Coords) : BitVec 32 :=
  let c8_i32_80 : BitVec 32 := 8#32
  let arg1 : BitVec 32 := BitVec.ofNat 32 (i 1).val
  let v326 : BitVec 32 := Scalar.muli c8_i32_80 arg1
  let c4_i32 : BitVec 32 := 4#32
  let v327 : BitVec 32 := Scalar.addi v326 c4_i32
  let c128_i32_81 : BitVec 32 := 128#32
  let v328 : BitVec 32 := Scalar.muli v327 c128_i32_81
  v328
def k0_mult5 (i : grid0.Coords) : BitVec 32 :=
  let c8_i32_120 : BitVec 32 := 8#32
  let arg1 : BitVec 32 := BitVec.ofNat 32 (i 1).val
  let v506 : BitVec 32 := Scalar.muli c8_i32_120 arg1
  let c3_i32 : BitVec 32 := 3#32
  let v507 : BitVec 32 := Scalar.addi v506 c3_i32
  let c128_i32_121 : BitVec 32 := 128#32
  let v508 : BitVec 32 := Scalar.muli v507 c128_i32_121
  v508
def k0_mult6 (i : grid0.Coords) : BitVec 32 :=
  let c8_i32_168 : BitVec 32 := 8#32
  let arg1 : BitVec 32 := BitVec.ofNat 32 (i 1).val
  let v726 : BitVec 32 := Scalar.muli c8_i32_168 arg1
  let c2_i32 : BitVec 32 := 2#32
  let v727 : BitVec 32 := Scalar.addi v726 c2_i32
  let c128_i32_169 : BitVec 32 := 128#32
  let v728 : BitVec 32 := Scalar.muli v727 c128_i32_169
  v728
def k0_mult7 (i : grid0.Coords) : BitVec 32 :=
  let c8_i32_224 : BitVec 32 := 8#32
  let arg1 : BitVec 32 := BitVec.ofNat 32 (i 1).val
  let v986 : BitVec 32 := Scalar.muli c8_i32_224 arg1
  let c1_i32 : BitVec 32 := 1#32
  let v987 : BitVec 32 := Scalar.addi v986 c1_i32
  let c128_i32_225 : BitVec 32 := 128#32
  let v988 : BitVec 32 := Scalar.muli v987 c128_i32_225
  v988
def k0_mult8 (i : grid0.Coords) : BitVec 32 :=
  let c8_i32_288 : BitVec 32 := 8#32
  let arg1 : BitVec 32 := BitVec.ofNat 32 (i 1).val
  let v1286 : BitVec 32 := Scalar.muli c8_i32_288 arg1
  let c0_i32_289 : BitVec 32 := 0#32
  let v1287 : BitVec 32 := Scalar.addi v1286 c0_i32_289
  let c128_i32_290 : BitVec 32 := 128#32
  let v1288 : BitVec 32 := Scalar.muli v1287 c128_i32_290
  v1288
@[reducible] def k0_t1_loop (i : grid0.Coords) : Scf.Loop 32 :=
  let c0_i32_362 : BitVec 32 := 0#32
  let c8_i32_361 : BitVec 32 := 8#32
  let arg1 : BitVec 32 := BitVec.ofNat 32 (i 1).val
  let v1626 : BitVec 32 := Scalar.muli c8_i32_361 arg1
  let v1627 : BitVec 32 := Scalar.subi v1626 c0_i32_362
  let c1_i32_363 : BitVec 32 := 1#32
  let v1629 : BitVec 32 := Scalar.divsi v1627 c1_i32_363
  let v1630 : BitVec 32 := Scalar.muli v1629 c1_i32_363
  let v1631 : BitVec 32 := Scalar.addi c0_i32_362 v1630
  let c1_i32_364 : BitVec 32 := 1#32
  ⟨c0_i32_362, v1631, c1_i32_364⟩
def k0_mult9 (i : grid0.Coords) (k0_t1 : Fin (k0_t1_loop i).trips) : BitVec 32 :=
  let c8_i32_398 : BitVec 32 := 8#32
  let arg1 : BitVec 32 := BitVec.ofNat 32 (i 1).val
  let v1658 : BitVec 32 := Scalar.muli c8_i32_398 arg1
  let c1_i32_399 : BitVec 32 := 1#32
  let v1659 : BitVec 32 := Scalar.subi v1658 c1_i32_399
  let c0_i32_362 : BitVec 32 := 0#32
  let c1_i32_364 : BitVec 32 := 1#32
  let arg7 : BitVec 32 := Scf.iv c0_i32_362 c1_i32_364 k0_t1
  let v1660 : BitVec 32 := Scalar.subi v1659 arg7
  let c128_i32_400 : BitVec 32 := 128#32
  let v1661 : BitVec 32 := Scalar.muli v1660 c128_i32_400
  v1661
def k0_off2 (i : grid0.Coords) (k0_t1 : Fin (k0_t1_loop i).trips) : Fin 2 → Nat :=
  let c8_i32_398 : BitVec 32 := 8#32
  let arg1 : BitVec 32 := BitVec.ofNat 32 (i 1).val
  let v1658 : BitVec 32 := Scalar.muli c8_i32_398 arg1
  let c1_i32_399 : BitVec 32 := 1#32
  let v1659 : BitVec 32 := Scalar.subi v1658 c1_i32_399
  let c0_i32_362 : BitVec 32 := 0#32
  let c1_i32_364 : BitVec 32 := 1#32
  let arg7 : BitVec 32 := Scf.iv c0_i32_362 c1_i32_364 k0_t1
  let v1660 : BitVec 32 := Scalar.subi v1659 arg7
  let c128_i32_400 : BitVec 32 := 128#32
  let v1661 : BitVec 32 := Scalar.muli v1660 c128_i32_400
  let v1662 : BitVec 32 := v1661
  let v1663 : Index := Scalar.indexCast v1662
  let c0_401 : Index := 0#32
  ![v1663.toNat, 0]
@[reducible] def k0_t2_loop (i : grid0.Coords) : Scf.Loop 32 :=
  let c0_i32_362 : BitVec 32 := 0#32
  let c8_i32_361 : BitVec 32 := 8#32
  let arg1 : BitVec 32 := BitVec.ofNat 32 (i 1).val
  let v1626 : BitVec 32 := Scalar.muli c8_i32_361 arg1
  let v1627 : BitVec 32 := Scalar.subi v1626 c0_i32_362
  let c1_i32_363 : BitVec 32 := 1#32
  let v1629 : BitVec 32 := Scalar.divsi v1627 c1_i32_363
  let v1630 : BitVec 32 := Scalar.muli v1629 c1_i32_363
  let v1631 : BitVec 32 := Scalar.addi c0_i32_362 v1630
  let v1628 : BitVec 32 := Scalar.addi c0_i32_362 v1627
  let c1_i32_365 : BitVec 32 := 1#32
  ⟨v1631, v1628, c1_i32_365⟩
def k0_mult10 (i : grid0.Coords) (k0_t2 : Fin (k0_t2_loop i).trips) : BitVec 32 :=
  let c8_i32_398 : BitVec 32 := 8#32
  let arg1 : BitVec 32 := BitVec.ofNat 32 (i 1).val
  let v1658 : BitVec 32 := Scalar.muli c8_i32_398 arg1
  let c1_i32_399 : BitVec 32 := 1#32
  let v1659 : BitVec 32 := Scalar.subi v1658 c1_i32_399
  let c0_i32_362 : BitVec 32 := 0#32
  let c8_i32_361 : BitVec 32 := 8#32
  let v1626 : BitVec 32 := Scalar.muli c8_i32_361 arg1
  let v1627 : BitVec 32 := Scalar.subi v1626 c0_i32_362
  let c1_i32_363 : BitVec 32 := 1#32
  let v1629 : BitVec 32 := Scalar.divsi v1627 c1_i32_363
  let v1630 : BitVec 32 := Scalar.muli v1629 c1_i32_363
  let v1631 : BitVec 32 := Scalar.addi c0_i32_362 v1630
  let c1_i32_365 : BitVec 32 := 1#32
  let arg7 : BitVec 32 := Scf.iv v1631 c1_i32_365 k0_t2
  let v1660 : BitVec 32 := Scalar.subi v1659 arg7
  let c128_i32_400 : BitVec 32 := 128#32
  let v1661 : BitVec 32 := Scalar.muli v1660 c128_i32_400
  v1661
def k0_off3 (i : grid0.Coords) (k0_t2 : Fin (k0_t2_loop i).trips) : Fin 2 → Nat :=
  let c8_i32_398 : BitVec 32 := 8#32
  let arg1 : BitVec 32 := BitVec.ofNat 32 (i 1).val
  let v1658 : BitVec 32 := Scalar.muli c8_i32_398 arg1
  let c1_i32_399 : BitVec 32 := 1#32
  let v1659 : BitVec 32 := Scalar.subi v1658 c1_i32_399
  let c0_i32_362 : BitVec 32 := 0#32
  let c8_i32_361 : BitVec 32 := 8#32
  let v1626 : BitVec 32 := Scalar.muli c8_i32_361 arg1
  let v1627 : BitVec 32 := Scalar.subi v1626 c0_i32_362
  let c1_i32_363 : BitVec 32 := 1#32
  let v1629 : BitVec 32 := Scalar.divsi v1627 c1_i32_363
  let v1630 : BitVec 32 := Scalar.muli v1629 c1_i32_363
  let v1631 : BitVec 32 := Scalar.addi c0_i32_362 v1630
  let c1_i32_365 : BitVec 32 := 1#32
  let arg7 : BitVec 32 := Scf.iv v1631 c1_i32_365 k0_t2
  let v1660 : BitVec 32 := Scalar.subi v1659 arg7
  let c128_i32_400 : BitVec 32 := 128#32
  let v1661 : BitVec 32 := Scalar.muli v1660 c128_i32_400
  let v1662 : BitVec 32 := v1661
  let v1663 : Index := Scalar.indexCast v1662
  let c0_401 : Index := 0#32
  ![v1663.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference22Ideal.lean ====
abbrev S2048x1536 : Shape := ⟨2, ![2048, 1536]⟩
abbrev S2048x512 : Shape := ⟨2, ![2048, 512]⟩
abbrev S2048x8x64 : Shape := ⟨3, ![2048, 8, 64]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x64x2048 : Shape := ⟨3, ![8, 64, 2048]⟩
abbrev S8x2048 : Shape := ⟨2, ![8, 2048]⟩
abbrev S2048x8 : Shape := ⟨2, ![2048, 8]⟩
abbrev S2048x8x1 : Shape := ⟨3, ![2048, 8, 1]⟩
abbrev S2048x8x128 : Shape := ⟨3, ![2048, 8, 128]⟩
abbrev S2048x1024 : Shape := ⟨2, ![2048, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x1536, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x8x64, .f32⟩
  | .hbm, ⟨6, _⟩ => ⟨S2048x8x64, .f32⟩
  | .hbm, ⟨7, _⟩ => ⟨S2048x8x64, .f32⟩
  | .hbm, ⟨8, _⟩ => ⟨S8x2048x2048, .f32⟩
  | .hbm, ⟨9, _⟩ => ⟨S2048, .i32⟩
  | .hbm, ⟨10, _⟩ => ⟨S1x2048, .i32⟩
  | .hbm, ⟨11, _⟩ => ⟨S2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .i1⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S_, .f32⟩
  | .hbm, ⟨35, _⟩ => ⟨S8x2048x2048, .i1⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .i1⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S_, .f32⟩
  | .hbm, ⟨62, _⟩ => ⟨S8x2048x2048, .i1⟩
  | .hbm, ⟨63, _⟩ => ⟨S8x2048x2048, .f32⟩
  | .hbm, ⟨64, _⟩ => ⟨S8x2048x2048, .f32⟩
  | .hbm, ⟨65, _⟩ => ⟨S8x64x2048, .f32⟩
  | .hbm, ⟨66, _⟩ => ⟨S2048x8x64, .f32⟩
  | .hbm, ⟨67, _⟩ => ⟨S_, .f32⟩
  | .hbm, ⟨68, _⟩ => ⟨S8x2048, .f32⟩
  | .hbm, ⟨69, _⟩ => ⟨S2048x512, .f32⟩
  | .hbm, ⟨70, _⟩ => ⟨S2048x8, .f32⟩
  | .hbm, ⟨71, _⟩ => ⟨S2048x8x1, .f32⟩
  | .hbm, ⟨72, _⟩ => ⟨S2048x8x128, .f32⟩
  | .hbm, ⟨73, _⟩ => ⟨S2048x1024, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v16 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_call2_cst : Ref sig .tc := ⟨.hbm, 38, rfl⟩
abbrev main_call2_v0 : Ref sig .tc := ⟨.hbm, 39, rfl⟩
abbrev main_v18 : Ref sig .tc := ⟨.hbm, 40, rfl⟩
abbrev main_v19 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_0 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_1 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== Kernel23.lean ====
abbrev S2048x1024 : Shape := ⟨2, ![2048, 1024]⟩
abbrev S4x1024 : Shape := ⟨2, ![4, 1024]⟩
abbrev S4x1x1024 : Shape := ⟨3, ![4, 1, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S4x1024, .f32⟩
  | .hbm, ⟨2, _⟩ => ⟨S4x1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S2048x1024 : Shape := ⟨2, ![2048, 1024]⟩
abbrev S4x1024 : Shape := ⟨2, ![4, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024 : Shape := ⟨1, ![1024]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel24.lean ====
abbrev S2048x1024 : Shape := ⟨2, ![2048, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference24Ideal.lean ====
abbrev S2048x1024 : Shape := ⟨2, ![2048, 1024]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel25.lean ====
abbrev S2048x1024 : Shape := ⟨2, ![2048, 1024]⟩
abbrev S4x1024 : Shape := ⟨2, ![4, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024, .f32⟩
  | .hbm, ⟨3, _⟩ => ⟨S2048x1024, .f32⟩
  | .hbm, ⟨4, _⟩ => ⟨S4x1x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S2048x1024 : Shape := ⟨2, ![2048, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024, .f32⟩
  | .hbm, ⟨3, _⟩ => ⟨S2048x1024, .f32⟩
  | .hbm, ⟨4, _⟩ => ⟨S1x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel26.lean ====
abbrev S2048x1024 : Shape := ⟨2, ![2048, 1024]⟩
abbrev S2816x1024 : Shape := ⟨2, ![2816, 1024]⟩
abbrev S2048x2816 : Shape := ⟨2, ![2048, 2816]⟩
abbrev S2048x5632 : Shape := ⟨2, ![2048, 5632]⟩
abbrev S512x1024 : Shape := ⟨2, ![512, 1024]⟩
abbrev S512x2816 : Shape := ⟨2, ![512, 2816]⟩
abbrev S512x5632 : Shape := ⟨2, ![512, 5632]⟩
abbrev S1408x1024 : Shape := ⟨2, ![1408, 1024]⟩
abbrev S512x1408 : Shape := ⟨2, ![512, 1408]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x2816, .bf16⟩
  | .hbm, ⟨3, _⟩ => ⟨S2048x2816, .bf16⟩
  | .hbm, ⟨4, _⟩ => ⟨S2816x1024, .bf16⟩
  | .hbm, ⟨5, _⟩ => ⟨S2048x5632, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x5632, .bf16⟩
  | .local _ .vmem, ⟨8, _⟩ => ⟨S512x5632, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference26Ideal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩
abbrev S2048x5632 : Shape := ⟨2, ![2048, 5632]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x2816, .bf16⟩
  | .hbm, ⟨3, _⟩ => ⟨S2048x2816, .bf16⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x1024, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x5632, .f32⟩
  | .hbm, ⟨32, _⟩ => ⟨S2048x5632, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Kernel27.lean ====
abbrev S2048x256 : Shape := ⟨2, ![2048, 256]⟩
abbrev S2048x512 : Shape := ⟨2, ![2048, 512]⟩
abbrev S4x1024 : Shape := ⟨2, ![4, 1024]⟩
abbrev S4x1x1024 : Shape := ⟨3, ![4, 1, 1024]⟩
abbrev S2048x1024 : Shape := ⟨2, ![2048, 1024]⟩
abbrev S512x256 : Shape := ⟨2, ![512, 256]⟩
abbrev S512x512 : Shape := ⟨2, ![512, 512]⟩
abbrev S1x1x1024 : Shape := ⟨3, ![1, 1, 1024]⟩
abbrev S512x1024 : Shape := ⟨2, ![512, 1024]⟩
abbrev S1x1024 : Shape := ⟨2, ![1, 1024]⟩
abbrev S1x256 : Shape := ⟨2, ![1, 256]⟩
abbrev S512 : Shape := ⟨1, ![512]⟩
abbrev S512x1 : Shape := ⟨2, ![512, 1]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S4x1024, .f32⟩
  | .hbm, ⟨4, _⟩ => ⟨S4x1x1024, .f32⟩
  | .hbm, ⟨5, _⟩ => ⟨S2048x1024, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S1x1x1024, .f32⟩
  | .local _ .vmem, ⟨7, _⟩ => ⟨S512x1024, .bf16⟩
  | .local _ .vmem, ⟨8, _⟩ => ⟨S512x1024, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference27Ideal.lean ====
abbrev S2048x256 : Shape := ⟨2, ![2048, 256]⟩
abbrev S2048x512 : Shape := ⟨2, ![2048, 512]⟩
abbrev S4x1024 : Shape := ⟨2, ![4, 1024]⟩
abbrev S1x1024 : Shape := ⟨2, ![1, 1024]⟩
abbrev S1024 : Shape := ⟨1, ![1024]⟩
abbrev S256 : Shape := ⟨1, ![256]⟩
abbrev S_ : Shape := ⟨0, ![]⟩
abbrev S2048 : Shape := ⟨1, ![2048]⟩
abbrev S2048x1 : Shape := ⟨2, ![2048, 1]⟩
abbrev S1x256 : Shape := ⟨2, ![1, 256]⟩
abbrev S512 : Shape := ⟨1, ![512]⟩
abbrev S1x512 : Shape := ⟨2, ![1, 512]⟩
abbrev S2048x1024 : Shape := ⟨2, ![2048, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S4x1024, .f32⟩
  | .hbm, ⟨4, _⟩ => ⟨S1x1024, .f32⟩
  | .hbm, ⟨5, _⟩ => ⟨S1024, .f32⟩
  | .hbm, ⟨6, _⟩ => ⟨S256, .f32⟩
  | .hbm, ⟨7, _⟩ => ⟨S2048x256, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x256, .f32⟩
  | .hbm, ⟨19, _⟩ => ⟨S2048x256, .f32⟩
  | .hbm, ⟨20, _⟩ => ⟨S1x256, .f32⟩
  | .hbm, ⟨21, _⟩ => ⟨S2048x256, .f32⟩
  | .hbm, ⟨22, _⟩ => ⟨S2048x256, .f32⟩
  | .hbm, ⟨23, _⟩ => ⟨S256, .f32⟩
  | .hbm, ⟨24, _⟩ => ⟨S2048x256, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x256, .f32⟩
  | .hbm, ⟨36, _⟩ => ⟨S2048x256, .f32⟩
  | .hbm, ⟨37, _⟩ => ⟨S1x256, .f32⟩
  | .hbm, ⟨38, _⟩ => ⟨S2048x256, .f32⟩
  | .hbm, ⟨39, _⟩ => ⟨S2048x256, .f32⟩
  | .hbm, ⟨40, _⟩ => ⟨S512, .f32⟩
  | .hbm, ⟨41, _⟩ => ⟨S2048x512, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x1, .f32⟩
  | .hbm, ⟨52, _⟩ => ⟨S2048x512, .f32⟩
  | .hbm, ⟨53, _⟩ => ⟨S2048x512, .f32⟩
  | .hbm, ⟨54, _⟩ => ⟨S1x512, .f32⟩
  | .hbm, ⟨55, _⟩ => ⟨S2048x512, .f32⟩
  | .hbm, ⟨56, _⟩ => ⟨S2048x512, .f32⟩
  | .hbm, ⟨57, _⟩ => ⟨S2048x1024, .f32⟩
  | .hbm, ⟨58, _⟩ => ⟨S2048x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Proof.Result3.lean ====
module

public import proofs.«01_k».proof.Proof.Gen.Kernel3Ideal.Frame
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference3Ideal.Term

open Cert.Reference3Ideal Cert.Reference3Ideal.Gen

/-- The reference's result as one term of its arguments. -/
def ref (a0 : FVec Ideal S2048x5632 .bf16) (a1 : FVec Ideal S1024x5632 .f32) : FVec Ideal S2048x1024 .f32 :=
  Host.dotGeneral dot_S2048x5632_S1024x5632_S2048x1024_1_1_0_0_n_n none (extf .f32 a0 bitsLt_bf16_f32) a1

end Cert.Reference3Ideal.Term

namespace Cert.Kernel3Ideal.Result

open Cert.Kernel3Ideal Cert.Kernel3Ideal.Gen Cert.Reference3Ideal.Term

variable (m : (ℓ : Loc nD τ sig) → Buf (Elt Ideal) ℓ)

/-- The index maps, in the point's number. -/
theorem idx_val : ∀ t : Fin cfg0.N, win0_0.index t = ![0, t.val]
    ∧ win0_1.index t = ![t.val, 0, 0]
    ∧ win0_2.index t = ![0, 0] :=
  (by decide +kernel : ∀ t : Fin grid0.N, _)

/-- One block's product, at an index. -/
theorem hpay1 (x0 : FVec Ideal S2048x1408 .bf16) (x1 : FVec Ideal S1x1024x1408 .bf16) (j) :
    (k0_pay1 (F := Ideal) x0 x1 j : EReal) = ∑ k : Fin 1408, (x0 (ix2 (j 0) k) : EReal) * x1 (ix3 0 (j 1) k) := by
  pointwise [k0_pay1]

/-- Adding it to what is there. -/
theorem hpay2 (x0 : FVec Ideal S2048x1408 .bf16) (x1 : FVec Ideal S1x1024x1408 .bf16) (acc : FVec Ideal S2048x1024 .f32) (j) :
    (k0_pay2 (F := Ideal) x0 x1 acc j : EReal) = acc j + ∑ k : Fin 1408, (x0 (ix2 (j 0) k) : EReal) * x1 (ix3 0 (j 1) k) := by
  pointwise [k0_pay2, k0_pay1]

theorem href (a0 : FVec Ideal S2048x5632 .bf16) (a1 : FVec Ideal S1024x5632 .f32) (j) :
    (ref a0 a1 j : EReal) = ∑ k : Fin 5632, (a0 (ix2 (j 0) k) : EReal) * a1 (ix2 (j 1) k) := by
  pointwise [ref]

theorem final (c : Dev nD) : (dats m 0 c).arrAt 2 (cfgs 0).N = ref (m ((c : Thread nD τ).loc main_arg0)) (m ((c : Thread nD τ).loc main_arg1)) := by
  refine (dats m 0 c).arrAt_eq_of_after_last 2 t0_3 (by decide +kernel) _ fun j => ?_
  blk_simp
  rw [after0_2, Pipeline.eq_sum_fin_of_reset_step_apply_last (fun n h => outsAt0 m c n h) 4 (fun _ => 0) _
    (fun t h j => by
      rw [outsAt0_A m c t h (by have := lt_of_lt_of_eq t.isLt (show cfg0.N = 4 from N_0); omega)]; frame_out
      rw [hpay1]; exact (zero_add _).symm)
    (fun t h j => by
      rw [outsAt0_B m c t h (by omega)]; frame_out
      rw [hpay2])
    (le_of_eq N_0) t0_3 rfl j, zero_add, href]
  refine Fin.sum_mul_add_congr fun t k hl => ?_
  blk_point [iblk, V, idx_val t]

end Cert.Kernel3Ideal.Result

end

end
-- ==== Proof.Result4.lean ====
module

public import proofs.«01_k».proof.Proof.Gen.Kernel4Ideal.Frame
public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference4Ideal.Term

open Cert.Reference4Ideal Cert.Reference4Ideal.Gen

/-- The reference's result as one term of its arguments. -/
def ref (a0 : FVec Ideal S2048x1024 .bf16) (a1 : FVec Ideal S2048x5632 .bf16) : FVec Ideal S4x1024x1408 .bf16 :=
  truncf .bf16 (transpose S4x1024x1408 [1, 0, 2] (shapeCast _ (transpose S1024x5632 [1, 0] (Host.dotGeneral dot_S2048x5632_S2048x1024_S5632x1024_0_0_1_1_n_n none (extf .f32 a1 bitsLt_bf16_f32) (extf .f32 a0 bitsLt_bf16_f32)) transposes_S5632x1024_S1024x5632_1_0) shapeCasts_S1024x5632_S1024x4x1408) transposes_S1024x4x1408_S4x1024x1408_1_0_2) bitsLt_bf16_f32

end Cert.Reference4Ideal.Term

namespace Cert.Kernel4Ideal.Result

open Cert.Kernel4Ideal Cert.Kernel4Ideal.Gen Cert.Reference4Ideal.Term

variable (m : (ℓ : Loc nD τ sig) → Buf (Elt Ideal) ℓ)

/-- The index maps, in the point's number. -/
theorem idx_val : ∀ t : Fin cfg0.N, win0_0.index t = ![0, t.val % 2]
    ∧ win0_1.index t = ![0, t.val / 2]
    ∧ win0_2.index t = ![t.val / 2, t.val % 2, 0] :=
  (by decide +kernel : ∀ t : Fin grid0.N, _)

theorem point (c : Dev nD) (t : Fin cfg0.N) (y) :
    k0_pay1 (iblk m c 0 t) (iblk m c 1 t) y
      = ref (m ((c : Thread nD τ).loc main_arg0)) (m ((c : Thread nD τ).loc main_arg1)) (((cfg0.win 2).blk t).view.emb
        y) := by
  pointwise [k0_pay1, ref]
  refine (Finset.sum_congr rfl fun k _ => mul_comm _ _).trans ?_
  blk_point [iblk, V, idx_val t]

theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel4Ideal.Result

end

end
-- ==== Proof.Result5.lean ====
module

public import proofs.«01_k».proof.Proof.Gen.Kernel5Ideal.Frame
public import proofs.«01_k».proof.Proof.Gen.Reference5Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference5Ideal.Term

open Cert.Reference5Ideal Cert.Reference5Ideal.Gen

/-- The reference's result as one term of its arguments. -/
def ref (a0 : FVec Ideal S2048x2816 .bf16) (a1 : FVec Ideal S2048x1024 .f32) : FVec Ideal S2816x1024 .bf16 :=
  truncf .bf16 (transpose S2816x1024 [1, 0] (Host.dotGeneral dot_S2048x1024_S2048x2816_S1024x2816_0_0_1_1_n_n none a1 (extf .f32 a0 bitsLt_bf16_f32)) transposes_S1024x2816_S2816x1024_1_0) bitsLt_bf16_f32

end Cert.Reference5Ideal.Term

namespace Cert.Kernel5Ideal.Result

open Cert.Kernel5Ideal Cert.Kernel5Ideal.Gen Cert.Reference5Ideal.Term

variable (m : (ℓ : Loc nD τ sig) → Buf (Elt Ideal) ℓ)

/-- The index maps, in the point's number. -/
theorem idx_val : ∀ t : Fin cfg0.N, win0_0.index t = ![0, t.val % 2]
    ∧ win0_1.index t = ![0, t.val / 2]
    ∧ win0_2.index t = ![t.val % 2, t.val / 2] :=
  (by decide +kernel : ∀ t : Fin grid0.N, _)

theorem point (c : Dev nD) (t : Fin cfg0.N) (y) :
    k0_pay1 (iblk m c 0 t) (iblk m c 1 t) y
      = ref (m ((c : Thread nD τ).loc main_arg0)) (m ((c : Thread nD τ).loc main_arg1)) (((cfg0.win 2).blk t).view.emb
        y) := by
  pointwise [k0_pay1, ref]
  refine (Finset.sum_congr rfl fun k _ => mul_comm _ _).trans ?_
  blk_point [iblk, V, idx_val t]

theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel5Ideal.Result

end

end
-- ==== Proof.Result6.lean ====
module

public import proofs.«01_k».proof.Proof.Gen.Kernel6Ideal.Frame
public import proofs.«01_k».proof.Proof.Gen.Reference6Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference6Ideal.Term

open Cert.Reference6Ideal Cert.Reference6Ideal.Gen

/-- The reference's result as one term of its arguments. -/
def ref (a0 : FVec Ideal S2048x2560 .bf16) (a1 : FVec Ideal S1024x2560 .f32) : FVec Ideal S2048x1024 .f32 :=
  Host.dotGeneral dot_S2048x2560_S1024x2560_S2048x1024_1_1_0_0_n_n none (extf .f32 a0 bitsLt_bf16_f32) a1

end Cert.Reference6Ideal.Term

namespace Cert.Kernel6Ideal.Result

open Cert.Kernel6Ideal Cert.Kernel6Ideal.Gen Cert.Reference6Ideal.Term

variable (m : (ℓ : Loc nD τ sig) → Buf (Elt Ideal) ℓ)

/-- The index maps, in the point's number. -/
theorem idx_val : ∀ t : Fin cfg0.N, win0_0.index t = ![0, t.val]
    ∧ win0_1.index t = ![t.val, 0, 0]
    ∧ win0_2.index t = ![0, 0] :=
  (by decide +kernel : ∀ t : Fin grid0.N, _)

/-- One block's product, at an index. -/
theorem hpay1 (x0 : FVec Ideal S2048x640 .bf16) (x1 : FVec Ideal S1x1024x640 .bf16) (j) :
    (k0_pay1 (F := Ideal) x0 x1 j : EReal) = ∑ k : Fin 640, (x0 (ix2 (j 0) k) : EReal) * x1 (ix3 0 (j 1) k) := by
  pointwise [k0_pay1]

/-- Adding it to what is there. -/
theorem hpay2 (x0 : FVec Ideal S2048x640 .bf16) (x1 : FVec Ideal S1x1024x640 .bf16) (acc : FVec Ideal S2048x1024 .f32) (j) :
    (k0_pay2 (F := Ideal) x0 x1 acc j : EReal) = acc j + ∑ k : Fin 640, (x0 (ix2 (j 0) k) : EReal) * x1 (ix3 0 (j 1) k) := by
  pointwise [k0_pay2, k0_pay1]

theorem href (a0 : FVec Ideal S2048x2560 .bf16) (a1 : FVec Ideal S1024x2560 .f32) (j) :
    (ref a0 a1 j : EReal) = ∑ k : Fin 2560, (a0 (ix2 (j 0) k) : EReal) * a1 (ix2 (j 1) k) := by
  pointwise [ref]

theorem final (c : Dev nD) : (dats m 0 c).arrAt 2 (cfgs 0).N = ref (m ((c : Thread nD τ).loc main_arg0)) (m ((c : Thread nD τ).loc main_arg1)) := by
  refine (dats m 0 c).arrAt_eq_of_after_last 2 t0_3 (by decide +kernel) _ fun j => ?_
  blk_simp
  rw [after0_2, Pipeline.eq_sum_fin_of_reset_step_apply_last (fun n h => outsAt0 m c n h) 4 (fun _ => 0) _
    (fun t h j => by
      rw [outsAt0_A m c t h (by have := lt_of_lt_of_eq t.isLt (show cfg0.N = 4 from N_0); omega)]; frame_out
      rw [hpay1]; exact (zero_add _).symm)
    (fun t h j => by
      rw [outsAt0_B m c t h (by omega)]; frame_out
      rw [hpay2])
    (le_of_eq N_0) t0_3 rfl j, zero_add, href]
  refine Fin.sum_mul_add_congr fun t k hl => ?_
  blk_point [iblk, V, idx_val t]

end Cert.Kernel6Ideal.Result

end

end
-- ==== Proof.Result7.lean ====
module

public import proofs.«01_k».proof.Proof.Gen.Kernel7Ideal.Frame
public import proofs.«01_k».proof.Proof.Gen.Reference7Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference7Ideal.Term

open Cert.Reference7Ideal Cert.Reference7Ideal.Gen

/-- The reference's result as one term of its arguments. -/
def ref (a0 : FVec Ideal S2048x1024 .bf16) (a1 : FVec Ideal S2048x2560 .bf16) : FVec Ideal S4x1024x640 .bf16 :=
  truncf .bf16 (transpose S4x1024x640 [1, 0, 2] (shapeCast _ (transpose S1024x2560 [1, 0] (Host.dotGeneral dot_S2048x2560_S2048x1024_S2560x1024_0_0_1_1_n_n none (extf .f32 a1 bitsLt_bf16_f32) (extf .f32 a0 bitsLt_bf16_f32)) transposes_S2560x1024_S1024x2560_1_0) shapeCasts_S1024x2560_S1024x4x640) transposes_S1024x4x640_S4x1024x640_1_0_2) bitsLt_bf16_f32

end Cert.Reference7Ideal.Term

namespace Cert.Kernel7Ideal.Result

open Cert.Kernel7Ideal Cert.Kernel7Ideal.Gen Cert.Reference7Ideal.Term

variable (m : (ℓ : Loc nD τ sig) → Buf (Elt Ideal) ℓ)

/-- The index maps, in the point's number. -/
theorem idx_val : ∀ t : Fin cfg0.N, win0_0.index t = ![0, 0]
    ∧ win0_1.index t = ![0, t.val]
    ∧ win0_2.index t = ![t.val, 0, 0] :=
  (by decide +kernel : ∀ t : Fin grid0.N, _)

theorem point (c : Dev nD) (t : Fin cfg0.N) (y) :
    k0_pay1 (iblk m c 0 t) (iblk m c 1 t) y
      = ref (m ((c : Thread nD τ).loc main_arg0)) (m ((c : Thread nD τ).loc main_arg1)) (((cfg0.win 2).blk t).view.emb
        y) := by
  pointwise [k0_pay1, ref]
  refine (Finset.sum_congr rfl fun k _ => mul_comm _ _).trans ?_
  blk_point [iblk, V, idx_val t]

theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel7Ideal.Result

end

end
-- ==== Proof.Result8.lean ====
module

public import proofs.«01_k».proof.Proof.Gen.Kernel8Ideal.Frame
public import proofs.«01_k».proof.Proof.Gen.Reference8Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference8Ideal.Term

open Cert.Reference8Ideal Cert.Reference8Ideal.Gen

/-- The reference's result as one term of its arguments. -/
def ref (a0 : FVec Ideal S2048x1024 .f32) (a1 : FVec Ideal S1024x1024 .f32) : FVec Ideal S2048x1024 .f32 :=
  Host.dotGeneral dot_S2048x1024_S1024x1024_S2048x1024_1_1_0_0_n_n none a0 a1

end Cert.Reference8Ideal.Term

namespace Cert.Kernel8Ideal.Result

open Cert.Kernel8Ideal Cert.Kernel8Ideal.Gen Cert.Reference8Ideal.Term

variable (m : (ℓ : Loc nD τ sig) → Buf (Elt Ideal) ℓ)

/-- The index maps, in the point's number. -/
theorem idx_val : ∀ t : Fin cfg0.N, win0_0.index t = ![t.val, 0]
    ∧ win0_1.index t = ![0, 0]
    ∧ win0_2.index t = ![t.val, 0] :=
  (by decide +kernel : ∀ t : Fin grid0.N, _)

theorem point (c : Dev nD) (t : Fin cfg0.N) (y) :
    k0_pay1 (iblk m c 0 t) (iblk m c 1 t) y
      = ref (m ((c : Thread nD τ).loc main_arg0)) (m ((c : Thread nD τ).loc main_arg1)) (((cfg0.win 2).blk t).view.emb
        y) := by
  pointwise [k0_pay1, ref]; blk_point [iblk, V, idx_val t]

theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel8Ideal.Result

end

end
-- ==== Proof.Result9.lean ====
module

public import proofs.«01_k».proof.Proof.Gen.Kernel9Ideal.Frame
public import proofs.«01_k».proof.Proof.Gen.Reference9Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference9Ideal.Term

open Cert.Reference9Ideal Cert.Reference9Ideal.Gen

/-- The reference's result as one term of its arguments. -/
def ref (a0 : FVec Ideal S2048x1024 .bf16) (a1 : FVec Ideal S2048x1024 .f32) : FVec Ideal S1024x1024 .bf16 :=
  truncf .bf16 (transpose S1024x1024 [1, 0] (Host.dotGeneral dot_S2048x1024_S2048x1024_S1024x1024_0_0_1_1_n_n none a1 (extf .f32 a0 bitsLt_bf16_f32)) transposes_S1024x1024_S1024x1024_1_0) bitsLt_bf16_f32

end Cert.Reference9Ideal.Term

namespace Cert.Kernel9Ideal.Result

open Cert.Kernel9Ideal Cert.Kernel9Ideal.Gen Cert.Reference9Ideal.Term

variable (m : (ℓ : Loc nD τ sig) → Buf (Elt Ideal) ℓ)

/-- The index maps, in the point's number. -/
theorem idx_val : ∀ t : Fin cfg0.N, win0_0.index t = ![0, t.val]
    ∧ win0_1.index t = ![0, 0]
    ∧ win0_2.index t = ![t.val, 0] :=
  (by decide +kernel : ∀ t : Fin grid0.N, _)

theorem point (c : Dev nD) (t : Fin cfg0.N) (y) :
    k0_pay1 (iblk m c 0 t) (iblk m c 1 t) y
      = ref (m ((c : Thread nD τ).loc main_arg0)) (m ((c : Thread nD τ).loc main_arg1)) (((cfg0.win 2).blk t).view.emb
        y) := by
  pointwise [k0_pay1, ref]
  refine (Finset.sum_congr rfl fun k _ => mul_comm _ _).trans ?_
  blk_point [iblk, V, idx_val t]

theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel9Ideal.Result

end

end
-- ==== Proof.Result13.lean ====
module

public import proofs.«01_k».proof.Proof.Gen.Kernel13Ideal.Frame
public import proofs.«01_k».proof.Proof.Gen.Reference13Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference13Ideal.Term

open Cert.Reference13Ideal Cert.Reference13Ideal.Gen

/-- The reference's result as one term of its arguments. -/
def ref_v4 (a0 : FVec Ideal S2048x1024 .bf16) (a1 : FVec Ideal S1024x5632 .f32) : FVec Ideal S2048x2816 .bf16 :=
  truncf .bf16 (extractStridedSlice S2048x2816 ![0, 0] (Host.dotGeneral dot_S2048x1024_S1024x5632_S2048x5632_1_0_0_1_n_n none (extf .f32 a0 bitsLt_bf16_f32) a1) slices_S2048x5632_S2048x2816_0_0) bitsLt_bf16_f32

/-- The reference's result as one term of its arguments. -/
def ref_v5 (a0 : FVec Ideal S2048x1024 .bf16) (a1 : FVec Ideal S1024x5632 .f32) : FVec Ideal S2048x2816 .bf16 :=
  truncf .bf16 (extractStridedSlice S2048x2816 ![0, 2816] (Host.dotGeneral dot_S2048x1024_S1024x5632_S2048x5632_1_0_0_1_n_n none (extf .f32 a0 bitsLt_bf16_f32) a1) slices_S2048x5632_S2048x2816_0_2816) bitsLt_bf16_f32

/-- The reference's result as one term of its arguments. -/
def ref_v8 (a0 : FVec Ideal S2048x1024 .bf16) (a1 : FVec Ideal S1024x5632 .f32) : FVec Ideal S2048x2816 .bf16 :=
  truncf .bf16 (mulf (mulf (extractStridedSlice S2048x2816 ![0, 0] (Host.dotGeneral dot_S2048x1024_S1024x5632_S2048x5632_1_0_0_1_n_n none (extf .f32 a0 bitsLt_bf16_f32) a1) slices_S2048x5632_S2048x2816_0_0) (Host.divf (broadcastInDim S2048x2816 ![] bcast_S_S2048x2816 (constant (F := Ideal) S_ .f32 0x3F800000#32)) (addf (broadcastInDim S2048x2816 ![] bcast_S_S2048x2816 (constant (F := Ideal) S_ .f32 0x3F800000#32)) (Host.exp (Host.negf (extractStridedSlice S2048x2816 ![0, 0] (Host.dotGeneral dot_S2048x1024_S1024x5632_S2048x5632_1_0_0_1_n_n none (extf .f32 a0 bitsLt_bf16_f32) a1) slices_S2048x5632_S2048x2816_0_0)))))) (extractStridedSlice S2048x2816 ![0, 2816] (Host.dotGeneral dot_S2048x1024_S1024x5632_S2048x5632_1_0_0_1_n_n none (extf .f32 a0 bitsLt_bf16_f32) a1) slices_S2048x5632_S2048x2816_0_2816)) bitsLt_bf16_f32

end Cert.Reference13Ideal.Term

namespace Cert.Kernel13Ideal.Result

open Cert.Kernel13Ideal Cert.Kernel13Ideal.Gen Cert.Reference13Ideal.Term

variable (m : (ℓ : Loc nD τ sig) → Buf (Elt Ideal) ℓ)

/-- The index maps, in the point's number. -/
theorem idx_val : ∀ t : Fin cfg0.N, win0_0.index t = ![t.val % 4, 0]
    ∧ win0_1.index t = ![t.val / 4, 0, 0]
    ∧ win0_2.index t = ![2 + (t.val / 4), 0, 0]
    ∧ win0_3.index t = ![t.val % 4, t.val / 4]
    ∧ win0_4.index t = ![t.val % 4, t.val / 4]
    ∧ win0_5.index t = ![t.val % 4, t.val / 4] :=
  (by decide +kernel : ∀ t : Fin grid0.N, _)

theorem point_3 (c : Dev nD) (t : Fin cfg0.N) (y) :
    k0_pay3 (iblk m c 0 t) (iblk m c 1 t) y
      = ref_v4 (m ((c : Thread nD τ).loc main_arg0)) (m ((c : Thread nD τ).loc main_arg1)) (((cfg0.win 3).blk
        t).view.emb y) := by
  pointwise [k0_pay3, ref_v4]; blk_point [iblk, V, idx_val t]

theorem final_3 (c : Dev nD) : (dats m 0 c).arrAt 3 (cfgs 0).N = ref_v4 (m ((c : Thread nD τ).loc main_arg0)) (m ((c : Thread nD τ).loc main_arg1)) := by
  refine (dats m 0 c).arrAt_eq_of_covers 3 _ (by decide +kernel) fun t hf y => ?_
  blk_simp; rw [after0_3]; frame_out
  exact point_3 m c t y

theorem point_4 (c : Dev nD) (t : Fin cfg0.N) (y) :
    k0_pay4 (iblk m c 0 t) (iblk m c 2 t) y
      = ref_v5 (m ((c : Thread nD τ).loc main_arg0)) (m ((c : Thread nD τ).loc main_arg1)) (((cfg0.win 4).blk
        t).view.emb y) := by
  pointwise [k0_pay4, ref_v5]; blk_point [iblk, V, idx_val t]

theorem final_4 (c : Dev nD) : (dats m 0 c).arrAt 4 (cfgs 0).N = ref_v5 (m ((c : Thread nD τ).loc main_arg0)) (m ((c : Thread nD τ).loc main_arg1)) := by
  refine (dats m 0 c).arrAt_eq_of_covers 4 _ (by decide +kernel) fun t hf y => ?_
  blk_simp; rw [after0_4]; frame_out
  exact point_4 m c t y

theorem point_5 (c : Dev nD) (t : Fin cfg0.N) (y) :
    k0_pay5 (iblk m c 0 t) (iblk m c 1 t) (iblk m c 2 t) y
      = ref_v8 (m ((c : Thread nD τ).loc main_arg0)) (m ((c : Thread nD τ).loc main_arg1)) (((cfg0.win 5).blk
        t).view.emb y) := by
  pointwise [k0_pay5, k0_pay1, k0_pay2, Ideal.logistic, ref_v8]; blk_point [iblk, V, idx_val t]

theorem final_5 (c : Dev nD) : (dats m 0 c).arrAt 5 (cfgs 0).N = ref_v8 (m ((c : Thread nD τ).loc main_arg0)) (m ((c : Thread nD τ).loc main_arg1)) := by
  refine (dats m 0 c).arrAt_eq_of_covers 5 _ (by decide +kernel) fun t hf y => ?_
  blk_simp; rw [after0_5]; frame_out
  exact point_5 m c t y

end Cert.Kernel13Ideal.Result

end

end
-- ==== Proof.Result14.lean ====
module

public import proofs.«01_k».proof.Proof.Gen.Kernel14Ideal.Frame
public import proofs.«01_k».proof.Proof.Gen.Reference14Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference14Ideal.Term

open Cert.Reference14Ideal Cert.Reference14Ideal.Gen

/-- The reference's result as one term of its arguments. -/
def ref (a0 : FVec Ideal S2048x1024 .bf16) (a1 : FVec Ideal S1024x2560 .f32) : FVec Ideal S2048x2560 .f32 :=
  Host.dotGeneral dot_S2048x1024_S1024x2560_S2048x2560_1_0_0_1_n_n none (extf .f32 a0 bitsLt_bf16_f32) a1

end Cert.Reference14Ideal.Term

namespace Cert.Kernel14Ideal.Result

open Cert.Kernel14Ideal Cert.Kernel14Ideal.Gen Cert.Reference14Ideal.Term

variable (m : (ℓ : Loc nD τ sig) → Buf (Elt Ideal) ℓ)

/-- The index maps, in the point's number. -/
theorem idx_val : ∀ t : Fin cfg0.N, win0_0.index t = ![0, 0]
    ∧ win0_1.index t = ![t.val, 0, 0]
    ∧ win0_2.index t = ![0, t.val] :=
  (by decide +kernel : ∀ t : Fin grid0.N, _)

theorem point (c : Dev nD) (t : Fin cfg0.N) (y) :
    k0_pay1 (iblk m c 0 t) (iblk m c 1 t) y
      = ref (m ((c : Thread nD τ).loc main_arg0)) (m ((c : Thread nD τ).loc main_arg1)) (((cfg0.win 2).blk t).view.emb
        y) := by
  pointwise [k0_pay1, ref]; blk_point [iblk, V, idx_val t]

theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel14Ideal.Result

end

end
-- ==== Proof.Result15.lean ====
module

public import proofs.«01_k».proof.Proof.Gen.Kernel15Ideal.Frame
public import proofs.«01_k».proof.Proof.Gen.Reference15Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference15Ideal.Term

open Cert.Reference15Ideal Cert.Reference15Ideal.Gen

/-- The reference's result as one term of its arguments. -/
def ref (a0 : FVec Ideal S2048x2816 .bf16) (a1 : FVec Ideal S2816x1024 .f32) (a2 : FVec Ideal S2048x1024 .f32) : FVec Ideal S2048x1024 .f32 :=
  addf a2 (Host.dotGeneral dot_S2048x2816_S2816x1024_S2048x1024_1_0_0_1_n_n none (extf .f32 a0 bitsLt_bf16_f32) a1)

end Cert.Reference15Ideal.Term

namespace Cert.Kernel15Ideal.Result

open Cert.Kernel15Ideal Cert.Kernel15Ideal.Gen Cert.Reference15Ideal.Term

variable (m : (ℓ : Loc nD τ sig) → Buf (Elt Ideal) ℓ)

/-- The index maps, in the point's number. -/
theorem idx_val : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

theorem point (c : Dev nD) (t : Fin cfg0.N) (y) :
    k0_pay1 (iblk m c 2 t) (iblk m c 0 t) (iblk m c 1 t) y
      = ref (m ((c : Thread nD τ).loc main_arg0)) (m ((c : Thread nD τ).loc main_arg1)) (m ((c : Thread nD τ).loc
        main_arg2)) (((cfg0.win 3).blk t).view.emb y) := by
  pointwise [k0_pay1, ref]; blk_point [iblk, V, idx_val t]

theorem final (c : Dev nD) : (dats m 0 c).arrAt 3 (cfgs 0).N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.Kernel15Ideal.Result

end

end
-- ==== Proof.Result16.lean ====
module

public import proofs.«01_k».proof.Proof.Gen.Kernel16Ideal.Frame
public import proofs.«01_k».proof.Proof.Gen.Reference16Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference16Ideal.Term

open Cert.Reference16Ideal Cert.Reference16Ideal.Gen

/-- The reference's result as one term of its arguments. -/
def ref (a0 : FVec Ideal S2048x1024 .bf16) (a1 : FVec Ideal S1024x1024 .f32) (a2 : FVec Ideal S2048x1024 .f32) : FVec Ideal S2048x1024 .f32 :=
  addf a2 (Host.dotGeneral dot_S2048x1024_S1024x1024_S2048x1024_1_0_0_1_n_n none (extf .f32 a0 bitsLt_bf16_f32) a1)

end Cert.Reference16Ideal.Term

namespace Cert.Kernel16Ideal.Result

open Cert.Kernel16Ideal Cert.Kernel16Ideal.Gen Cert.Reference16Ideal.Term

variable (m : (ℓ : Loc nD τ sig) → Buf (Elt Ideal) ℓ)

/-- The index maps, in the point's number. -/
theorem idx_val : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

theorem point (c : Dev nD) (t : Fin cfg0.N) (y) :
    k0_pay1 (iblk m c 2 t) (iblk m c 0 t) (iblk m c 1 t) y
      = ref (m ((c : Thread nD τ).loc main_arg0)) (m ((c : Thread nD τ).loc main_arg1)) (m ((c : Thread nD τ).loc
        main_arg2)) (((cfg0.win 3).blk t).view.emb y) := by
  pointwise [k0_pay1, ref]; blk_point [iblk, V, idx_val t]

theorem final (c : Dev nD) : (dats m 0 c).arrAt 3 (cfgs 0).N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.Kernel16Ideal.Result

end

end
-- ==== Proof.Result17.lean ====
module

public import proofs.«01_k».proof.Proof.Gen.Kernel17Ideal.Value
public import proofs.«01_k».proof.Proof.Gen.Reference17Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference17Ideal.Term

open Cert.Reference17Ideal Cert.Reference17Ideal.Gen

/-- The reference's result as one term of its arguments. -/
def ref_v23 (a0 : FVec Ideal S2272x128 .f32) (a1 : FVec Ideal S2272x128 .f32) (a2 : FVec Ideal S2272x128 .f32) (a3 : FVec Ideal S2272x128 .f32) : FVec Ideal S2272x128 .f32 :=
  mulf (broadcastInDim S2272x128 ![] bcast_S_S2272x128 (constant (F := Ideal) S_ .f32 0xBA83126F#32)) (addf (Host.divf (Host.divf (addf (mulf (broadcastInDim S2272x128 ![] bcast_S_S2272x128 (constant (F := Ideal) S_ .f32 0x3F666666#32)) a1) (mulf (broadcastInDim S2272x128 ![] bcast_S_S2272x128 (constant (F := Ideal) S_ .f32 0x3DCCCCCD#32)) a3)) (broadcastInDim S2272x128 ![] bcast_S_S2272x128 (constant (F := Ideal) S_ .f32 0x3F26BD02#32))) (addf (Host.sqrt (Host.divf (addf (mulf (broadcastInDim S2272x128 ![] bcast_S_S2272x128 (constant (F := Ideal) S_ .f32 0x3F7FBE77#32)) a2) (mulf (broadcastInDim S2272x128 ![] bcast_S_S2272x128 (constant (F := Ideal) S_ .f32 0x3A83126F#32)) (mulf a3 a3))) (broadcastInDim S2272x128 ![] bcast_S_S2272x128 (constant (F := Ideal) S_ .f32 0x3C231ACC#32)))) (broadcastInDim S2272x128 ![] bcast_S_S2272x128 (constant (F := Ideal) S_ .f32 0x322BCC77#32)))) (mulf (broadcastInDim S2272x128 ![] bcast_S_S2272x128 (constant (F := Ideal) S_ .f32 0x3C23D70A#32)) a0))

/-- The reference's result as one term of its arguments. -/
def ref_v4 (a1 : FVec Ideal S2272x128 .f32) (a3 : FVec Ideal S2272x128 .f32) : FVec Ideal S2272x128 .f32 :=
  addf (mulf (broadcastInDim S2272x128 ![] bcast_S_S2272x128 (constant (F := Ideal) S_ .f32 0x3F666666#32)) a1) (mulf (broadcastInDim S2272x128 ![] bcast_S_S2272x128 (constant (F := Ideal) S_ .f32 0x3DCCCCCD#32)) a3)

/-- The reference's result as one term of its arguments. -/
def ref_v10 (a2 : FVec Ideal S2272x128 .f32) (a3 : FVec Ideal S2272x128 .f32) : FVec Ideal S2272x128 .f32 :=
  addf (mulf (broadcastInDim S2272x128 ![] bcast_S_S2272x128 (constant (F := Ideal) S_ .f32 0x3F7FBE77#32)) a2) (mulf (broadcastInDim S2272x128 ![] bcast_S_S2272x128 (constant (F := Ideal) S_ .f32 0x3A83126F#32)) (mulf a3 a3))

end Cert.Reference17Ideal.Term

namespace Cert.Kernel17Ideal.Result

open Cert.Kernel17Ideal Cert.Kernel17Ideal.Gen Cert.Reference17Ideal.Term

variable (m : (ℓ : Loc nD τ sig) → Buf (Elt Ideal) ℓ)

theorem final_4 (c : Dev nD) : (dats m 0 c).arrAt 4 (cfgs 0).N = ref_v23 (m ((c : Thread nD τ).loc main_arg0)) (m ((c : Thread nD τ).loc main_arg1)) (m ((c : Thread nD τ).loc main_arg2)) (m ((c : Thread nD τ).loc main_arg3)) := by
  rw [show (dats m 0 c).arrAt 4 (cfgs 0).N = _ from Value.final4 m c]
  funext i
  pointwise [Value.G4, ref_v23]

theorem final_5 (c : Dev nD) : (dats m 0 c).arrAt 5 (cfgs 0).N = ref_v4 (m ((c : Thread nD τ).loc main_arg1)) (m ((c : Thread nD τ).loc main_arg3)) := by
  rw [show (dats m 0 c).arrAt 5 (cfgs 0).N = _ from Value.final5 m c]
  funext i
  pointwise [Value.G5, ref_v4]

theorem final_6 (c : Dev nD) : (dats m 0 c).arrAt 6 (cfgs 0).N = ref_v10 (m ((c : Thread nD τ).loc main_arg2)) (m ((c : Thread nD τ).loc main_arg3)) := by
  rw [show (dats m 0 c).arrAt 6 (cfgs 0).N = _ from Value.final6 m c]
  funext i
  pointwise [Value.G6, ref_v10]

end Cert.Kernel17Ideal.Result

end
-- ==== Proof.Result18.lean ====
module

public import proofs.«01_k».proof.Proof.Gen.Kernel18Ideal.Frame
public import proofs.«01_k».proof.Proof.Gen.Reference18Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference18Ideal.Term

open Cert.Reference18Ideal Cert.Reference18Ideal.Gen

/-- The reference's result as one term of its arguments. -/
def ref_v32 (a3 : FVec Ideal S1024x640 .f32) (a4 : FVec Ideal S4x1024x640 .f32) : FVec Ideal S4x1024x640 .f32 :=
  concatenate S4x1024x640 0 [⟨S1x1024x640, (broadcastInDim S1x1024x640 ![1, 2] bcast_S1024x640_S1x1024x640_1_2 a3)⟩, ⟨S3x1024x640, (extractStridedSlice S3x1024x640 ![1, 0, 0] a4 slices_S4x1024x640_S3x1024x640_1_0_0)⟩] concatenates_S1x1024x640_S3x1024x640_S4x1024x640_d0

/-- The reference's result as one term of its arguments. -/
def ref_v35 (a0 : FVec Ideal S4x1024x640 .f32) (a1 : FVec Ideal S4x1024x640 .f32) (a2 : FVec Ideal S4x1024x640 .f32) (a3 : FVec Ideal S1024x640 .f32) (a5 : FVec Ideal S4x1024x640 .f32) : FVec Ideal S4x1024x640 .f32 :=
  concatenate S4x1024x640 0 [⟨S1x1024x640, (broadcastInDim S1x1024x640 ![1, 2] bcast_S1024x640_S1x1024x640_1_2 (mulf (broadcastInDim S1024x640 ![] bcast_S_S1024x640 (constant (F := Ideal) S_ .f32 0xBA83126F#32)) (addf (Host.divf (Host.divf (addf (mulf (broadcastInDim S1024x640 ![] bcast_S_S1024x640 (constant (F := Ideal) S_ .f32 0x3F666666#32)) (shapeCast _ (extractStridedSlice S1x1024x640 ![0, 0, 0] a1 slices_S4x1024x640_S1x1024x640_0_0_0) shapeCasts_S1x1024x640_S1024x640)) (mulf (broadcastInDim S1024x640 ![] bcast_S_S1024x640 (constant (F := Ideal) S_ .f32 0x3DCCCCCD#32)) a3)) (broadcastInDim S1024x640 ![] bcast_S_S1024x640 (constant (F := Ideal) S_ .f32 0x3F26BD02#32))) (addf (Host.sqrt (Host.divf (addf (mulf (broadcastInDim S1024x640 ![] bcast_S_S1024x640 (constant (F := Ideal) S_ .f32 0x3F7FBE77#32)) (shapeCast _ (extractStridedSlice S1x1024x640 ![0, 0, 0] a2 slices_S4x1024x640_S1x1024x640_0_0_0) shapeCasts_S1x1024x640_S1024x640)) (mulf (broadcastInDim S1024x640 ![] bcast_S_S1024x640 (constant (F := Ideal) S_ .f32 0x3A83126F#32)) (mulf a3 a3))) (broadcastInDim S1024x640 ![] bcast_S_S1024x640 (constant (F := Ideal) S_ .f32 0x3C231ACC#32)))) (broadcastInDim S1024x640 ![] bcast_S_S1024x640 (constant (F := Ideal) S_ .f32 0x322BCC77#32)))) (mulf (broadcastInDim S1024x640 ![] bcast_S_S1024x640 (constant (F := Ideal) S_ .f32 0x3C23D70A#32)) (shapeCast _ (extractStridedSlice S1x1024x640 ![0, 0, 0] a0 slices_S4x1024x640_S1x1024x640_0_0_0) shapeCasts_S1x1024x640_S1024x640)))))⟩, ⟨S3x1024x640, (extractStridedSlice S3x1024x640 ![1, 0, 0] a5 slices_S4x1024x640_S3x1024x640_1_0_0)⟩] concatenates_S1x1024x640_S3x1024x640_S4x1024x640_d0

/-- The reference's result as one term of its arguments. -/
def ref_v38 (a1 : FVec Ideal S4x1024x640 .f32) (a3 : FVec Ideal S1024x640 .f32) (a6 : FVec Ideal S4x1024x640 .f32) : FVec Ideal S4x1024x640 .f32 :=
  concatenate S4x1024x640 0 [⟨S1x1024x640, (broadcastInDim S1x1024x640 ![1, 2] bcast_S1024x640_S1x1024x640_1_2 (addf (mulf (broadcastInDim S1024x640 ![] bcast_S_S1024x640 (constant (F := Ideal) S_ .f32 0x3F666666#32)) (shapeCast _ (extractStridedSlice S1x1024x640 ![0, 0, 0] a1 slices_S4x1024x640_S1x1024x640_0_0_0) shapeCasts_S1x1024x640_S1024x640)) (mulf (broadcastInDim S1024x640 ![] bcast_S_S1024x640 (constant (F := Ideal) S_ .f32 0x3DCCCCCD#32)) a3)))⟩, ⟨S3x1024x640, (extractStridedSlice S3x1024x640 ![1, 0, 0] a6 slices_S4x1024x640_S3x1024x640_1_0_0)⟩] concatenates_S1x1024x640_S3x1024x640_S4x1024x640_d0

/-- The reference's result as one term of its arguments. -/
def ref_v41 (a2 : FVec Ideal S4x1024x640 .f32) (a3 : FVec Ideal S1024x640 .f32) (a7 : FVec Ideal S4x1024x640 .f32) : FVec Ideal S4x1024x640 .f32 :=
  concatenate S4x1024x640 0 [⟨S1x1024x640, (broadcastInDim S1x1024x640 ![1, 2] bcast_S1024x640_S1x1024x640_1_2 (addf (mulf (broadcastInDim S1024x640 ![] bcast_S_S1024x640 (constant (F := Ideal) S_ .f32 0x3F7FBE77#32)) (shapeCast _ (extractStridedSlice S1x1024x640 ![0, 0, 0] a2 slices_S4x1024x640_S1x1024x640_0_0_0) shapeCasts_S1x1024x640_S1024x640)) (mulf (broadcastInDim S1024x640 ![] bcast_S_S1024x640 (constant (F := Ideal) S_ .f32 0x3A83126F#32)) (mulf a3 a3))))⟩, ⟨S3x1024x640, (extractStridedSlice S3x1024x640 ![1, 0, 0] a7 slices_S4x1024x640_S3x1024x640_1_0_0)⟩] concatenates_S1x1024x640_S3x1024x640_S4x1024x640_d0

end Cert.Reference18Ideal.Term

namespace Cert.Kernel18Ideal.Result

open Cert.Kernel18Ideal Cert.Kernel18Ideal.Gen Cert.Reference18Ideal.Term

variable (m : (ℓ : Loc nD τ sig) → Buf (Elt Ideal) ℓ)

/-- The index maps, in the point's number. -/
theorem idx_val : ∀ t : Fin cfg0.N, win0_0.index t = ![0, t.val, 0]
    ∧ win0_1.index t = ![0, t.val, 0]
    ∧ win0_2.index t = ![0, t.val, 0]
    ∧ win0_3.index t = ![t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

theorem point_4 (c : Dev nD) (t : Fin cfg0.N) (y) :
    k0_pay7 (iblk m c 3 t) y
      = ref_v32 (m ((c : Thread nD τ).loc main_arg3)) (m ((c : Thread nD τ).loc main_arg4)) (((cfg0.win 4).blk t).view.emb y) := by
  have h0 : (((cfg0.win 4).blk t).view.emb y (0 : Fin 3) : ℕ) < 1 := by blk_simp [idx_val t]; omega
  pointwise [k0_pay7, ref_v32]; blk_point [iblk, V, idx_val t]
  rename_i h _
  exact absurd h0 h

theorem rest_4 (c : Dev nD) (j : (cfg0.win 4).shape.Idx) (hj : ¬ (cfg0.win 4).cell j (0 : Fin 3) = 0) :
    (dats m 0 c).A 4 ((cfg0.win 4).arr.view.emb j) = ref_v32 (m ((c : Thread nD τ).loc main_arg3)) (m ((c : Thread nD τ).loc main_arg4)) ((cfg0.win 4).arr.view.emb j) := by
  blk_simp [Pipeline.Window.cell_apply] at hj
  pointwise [ref_v32]
  refine Eq.trans ?_ (dif_neg (show ¬ ((j (0 : Fin 3) : ℕ) < 1) by omega)).symm
  show V m c main_v0_0 _ = _
  entry_read
  blk_ext

theorem final_4 (c : Dev nD) : (dats m 0 c).arrAt 4 (cfgs 0).N = ref_v32 (m ((c : Thread nD τ).loc main_arg3)) (m ((c : Thread nD τ).loc main_arg4)) := by
  refine (dats m 0 c).arrAt_eq_of_coversWhere_of_agree 4 _ (fun β => β (0 : Fin 3) = 0) (by decide +kernel) (fun t hf y => ?_)
    (fun j hj => rest_4 m c j hj)
  blk_simp; rw [after0_4]; dsimp only [outsAt0]; frame_out
  exact point_4 m c t y

theorem point_5 (c : Dev nD) (t : Fin cfg0.N) (y) :
    k0_pay1 (k0_pay6 (iblk m c 3 t) (iblk m c 0 t) (iblk m c 1 t) (iblk m c 2 t)) y
      = ref_v35 (m ((c : Thread nD τ).loc main_arg0)) (m ((c : Thread nD τ).loc main_arg1)) (m ((c : Thread nD τ).loc main_arg2)) (m ((c : Thread nD τ).loc main_arg3)) (m ((c : Thread nD τ).loc main_arg5)) (((cfg0.win 5).blk t).view.emb y) := by
  have h0 : (((cfg0.win 5).blk t).view.emb y (0 : Fin 3) : ℕ) < 1 := by blk_simp [idx_val t]; omega
  pointwise [k0_pay1, k0_pay6, k0_pay4, k0_pay5, ref_v35]; blk_point [iblk, V, idx_val t]
  rename_i h _
  exact absurd h0 h

theorem rest_5 (c : Dev nD) (j : (cfg0.win 5).shape.Idx) (hj : ¬ (cfg0.win 5).cell j (0 : Fin 3) = 0) :
    (dats m 0 c).A 5 ((cfg0.win 5).arr.view.emb j) = ref_v35 (m ((c : Thread nD τ).loc main_arg0)) (m ((c : Thread nD τ).loc main_arg1)) (m ((c : Thread nD τ).loc main_arg2)) (m ((c : Thread nD τ).loc main_arg3)) (m ((c : Thread nD τ).loc main_arg5)) ((cfg0.win 5).arr.view.emb j) := by
  blk_simp [Pipeline.Window.cell_apply] at hj
  pointwise [ref_v35]
  refine Eq.trans ?_ (dif_neg (show ¬ ((j (0 : Fin 3) : ℕ) < 1) by omega)).symm
  show V m c main_v0_1 _ = _
  entry_read
  blk_ext

theorem final_5 (c : Dev nD) : (dats m 0 c).arrAt 5 (cfgs 0).N = ref_v35 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_coversWhere_of_agree 5 _ (fun β => β (0 : Fin 3) = 0) (by decide +kernel) (fun t hf y => ?_)
    (fun j hj => rest_5 m c j hj)
  blk_simp; rw [after0_5]; dsimp only [outsAt0]; frame_out
  exact point_5 m c t y

theorem point_6 (c : Dev nD) (t : Fin cfg0.N) (y) :
    k0_pay2 (k0_pay4 (iblk m c 3 t) (iblk m c 1 t)) y
      = ref_v38 (m ((c : Thread nD τ).loc main_arg1)) (m ((c : Thread nD τ).loc main_arg3)) (m ((c : Thread nD τ).loc main_arg6)) (((cfg0.win 6).blk t).view.emb y) := by
  have h0 : (((cfg0.win 6).blk t).view.emb y (0 : Fin 3) : ℕ) < 1 := by blk_simp [idx_val t]; omega
  pointwise [k0_pay2, k0_pay4, ref_v38]; blk_point [iblk, V, idx_val t]
  rename_i h _
  exact absurd h0 h

theorem rest_6 (c : Dev nD) (j : (cfg0.win 6).shape.Idx) (hj : ¬ (cfg0.win 6).cell j (0 : Fin 3) = 0) :
    (dats m 0 c).A 6 ((cfg0.win 6).arr.view.emb j) = ref_v38 (m ((c : Thread nD τ).loc main_arg1)) (m ((c : Thread nD τ).loc main_arg3)) (m ((c : Thread nD τ).loc main_arg6)) ((cfg0.win 6).arr.view.emb j) := by
  blk_simp [Pipeline.Window.cell_apply] at hj
  pointwise [ref_v38]
  refine Eq.trans ?_ (dif_neg (show ¬ ((j (0 : Fin 3) : ℕ) < 1) by omega)).symm
  show V m c main_v0_2 _ = _
  entry_read
  blk_ext

theorem final_6 (c : Dev nD) : (dats m 0 c).arrAt 6 (cfgs 0).N = ref_v38 (m ((c : Thread nD τ).loc main_arg1)) (m ((c : Thread nD τ).loc main_arg3)) (m ((c : Thread nD τ).loc main_arg6)) := by
  refine (dats m 0 c).arrAt_eq_of_coversWhere_of_agree 6 _ (fun β => β (0 : Fin 3) = 0) (by decide +kernel) (fun t hf y => ?_)
    (fun j hj => rest_6 m c j hj)
  blk_simp; rw [after0_6]; dsimp only [outsAt0]; frame_out
  exact point_6 m c t y

theorem point_7 (c : Dev nD) (t : Fin cfg0.N) (y) :
    k0_pay3 (k0_pay5 (iblk m c 3 t) (iblk m c 2 t)) y
      = ref_v41 (m ((c : Thread nD τ).loc main_arg2)) (m ((c : Thread nD τ).loc main_arg3)) (m ((c : Thread nD τ).loc main_arg7)) (((cfg0.win 7).blk t).view.emb y) := by
  have h0 : (((cfg0.win 7).blk t).view.emb y (0 : Fin 3) : ℕ) < 1 := by blk_simp [idx_val t]; omega
  pointwise [k0_pay3, k0_pay5, ref_v41]; blk_point [iblk, V, idx_val t]
  rename_i h _
  exact absurd h0 h

theorem rest_7 (c : Dev nD) (j : (cfg0.win 7).shape.Idx) (hj : ¬ (cfg0.win 7).cell j (0 : Fin 3) = 0) :
    (dats m 0 c).A 7 ((cfg0.win 7).arr.view.emb j) = ref_v41 (m ((c : Thread nD τ).loc main_arg2)) (m ((c : Thread nD τ).loc main_arg3)) (m ((c : Thread nD τ).loc main_arg7)) ((cfg0.win 7).arr.view.emb j) := by
  blk_simp [Pipeline.Window.cell_apply] at hj
  pointwise [ref_v41]
  refine Eq.trans ?_ (dif_neg (show ¬ ((j (0 : Fin 3) : ℕ) < 1) by omega)).symm
  show V m c main_v0_3 _ = _
  entry_read
  blk_ext

theorem final_7 (c : Dev nD) : (dats m 0 c).arrAt 7 (cfgs 0).N = ref_v41 (m ((c : Thread nD τ).loc main_arg2)) (m ((c : Thread nD τ).loc main_arg3)) (m ((c : Thread nD τ).loc main_arg7)) := by
  refine (dats m 0 c).arrAt_eq_of_coversWhere_of_agree 7 _ (fun β => β (0 : Fin 3) = 0) (by decide +kernel) (fun t hf y => ?_)
    (fun j hj => rest_7 m c j hj)
  blk_simp; rw [after0_7]; dsimp only [outsAt0]; frame_out
  exact point_7 m c t y

end Cert.Kernel18Ideal.Result

end
-- ==== Proof.Result19.lean ====
module

public import proofs.«01_k».proof.Proof.Gen.Kernel19Ideal.Frame
public import proofs.«01_k».proof.Proof.Gen.Reference19Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference19Ideal.Term

open Cert.Reference19Ideal Cert.Reference19Ideal.Gen

/-- The reference's result as one term of its arguments. -/
def ref_v32 (a3 : FVec Ideal S256x1024 .f32) (a4 : FVec Ideal S4x256x1024 .f32) : FVec Ideal S4x256x1024 .f32 :=
  concatenate S4x256x1024 0 [⟨S1x256x1024, (broadcastInDim S1x256x1024 ![1, 2] bcast_S256x1024_S1x256x1024_1_2 a3)⟩, ⟨S3x256x1024, (extractStridedSlice S3x256x1024 ![1, 0, 0] a4 slices_S4x256x1024_S3x256x1024_1_0_0)⟩] concatenates_S1x256x1024_S3x256x1024_S4x256x1024_d0

/-- The reference's result as one term of its arguments. -/
def ref_v35 (a0 : FVec Ideal S4x256x1024 .f32) (a1 : FVec Ideal S4x256x1024 .f32) (a2 : FVec Ideal S4x256x1024 .f32) (a3 : FVec Ideal S256x1024 .f32) (a5 : FVec Ideal S4x256x1024 .f32) : FVec Ideal S4x256x1024 .f32 :=
  concatenate S4x256x1024 0 [⟨S1x256x1024, (broadcastInDim S1x256x1024 ![1, 2] bcast_S256x1024_S1x256x1024_1_2 (mulf (broadcastInDim S256x1024 ![] bcast_S_S256x1024 (constant (F := Ideal) S_ .f32 0xBA83126F#32)) (addf (Host.divf (Host.divf (addf (mulf (broadcastInDim S256x1024 ![] bcast_S_S256x1024 (constant (F := Ideal) S_ .f32 0x3F666666#32)) (shapeCast _ (extractStridedSlice S1x256x1024 ![0, 0, 0] a1 slices_S4x256x1024_S1x256x1024_0_0_0) shapeCasts_S1x256x1024_S256x1024)) (mulf (broadcastInDim S256x1024 ![] bcast_S_S256x1024 (constant (F := Ideal) S_ .f32 0x3DCCCCCD#32)) a3)) (broadcastInDim S256x1024 ![] bcast_S_S256x1024 (constant (F := Ideal) S_ .f32 0x3F26BD02#32))) (addf (Host.sqrt (Host.divf (addf (mulf (broadcastInDim S256x1024 ![] bcast_S_S256x1024 (constant (F := Ideal) S_ .f32 0x3F7FBE77#32)) (shapeCast _ (extractStridedSlice S1x256x1024 ![0, 0, 0] a2 slices_S4x256x1024_S1x256x1024_0_0_0) shapeCasts_S1x256x1024_S256x1024)) (mulf (broadcastInDim S256x1024 ![] bcast_S_S256x1024 (constant (F := Ideal) S_ .f32 0x3A83126F#32)) (mulf a3 a3))) (broadcastInDim S256x1024 ![] bcast_S_S256x1024 (constant (F := Ideal) S_ .f32 0x3C231ACC#32)))) (broadcastInDim S256x1024 ![] bcast_S_S256x1024 (constant (F := Ideal) S_ .f32 0x322BCC77#32)))) (mulf (broadcastInDim S256x1024 ![] bcast_S_S256x1024 (constant (F := Ideal) S_ .f32 0x3C23D70A#32)) (shapeCast _ (extractStridedSlice S1x256x1024 ![0, 0, 0] a0 slices_S4x256x1024_S1x256x1024_0_0_0) shapeCasts_S1x256x1024_S256x1024)))))⟩, ⟨S3x256x1024, (extractStridedSlice S3x256x1024 ![1, 0, 0] a5 slices_S4x256x1024_S3x256x1024_1_0_0)⟩] concatenates_S1x256x1024_S3x256x1024_S4x256x1024_d0

/-- The reference's result as one term of its arguments. -/
def ref_v38 (a1 : FVec Ideal S4x256x1024 .f32) (a3 : FVec Ideal S256x1024 .f32) (a6 : FVec Ideal S4x256x1024 .f32) : FVec Ideal S4x256x1024 .f32 :=
  concatenate S4x256x1024 0 [⟨S1x256x1024, (broadcastInDim S1x256x1024 ![1, 2] bcast_S256x1024_S1x256x1024_1_2 (addf (mulf (broadcastInDim S256x1024 ![] bcast_S_S256x1024 (constant (F := Ideal) S_ .f32 0x3F666666#32)) (shapeCast _ (extractStridedSlice S1x256x1024 ![0, 0, 0] a1 slices_S4x256x1024_S1x256x1024_0_0_0) shapeCasts_S1x256x1024_S256x1024)) (mulf (broadcastInDim S256x1024 ![] bcast_S_S256x1024 (constant (F := Ideal) S_ .f32 0x3DCCCCCD#32)) a3)))⟩, ⟨S3x256x1024, (extractStridedSlice S3x256x1024 ![1, 0, 0] a6 slices_S4x256x1024_S3x256x1024_1_0_0)⟩] concatenates_S1x256x1024_S3x256x1024_S4x256x1024_d0

/-- The reference's result as one term of its arguments. -/
def ref_v41 (a2 : FVec Ideal S4x256x1024 .f32) (a3 : FVec Ideal S256x1024 .f32) (a7 : FVec Ideal S4x256x1024 .f32) : FVec Ideal S4x256x1024 .f32 :=
  concatenate S4x256x1024 0 [⟨S1x256x1024, (broadcastInDim S1x256x1024 ![1, 2] bcast_S256x1024_S1x256x1024_1_2 (addf (mulf (broadcastInDim S256x1024 ![] bcast_S_S256x1024 (constant (F := Ideal) S_ .f32 0x3F7FBE77#32)) (shapeCast _ (extractStridedSlice S1x256x1024 ![0, 0, 0] a2 slices_S4x256x1024_S1x256x1024_0_0_0) shapeCasts_S1x256x1024_S256x1024)) (mulf (broadcastInDim S256x1024 ![] bcast_S_S256x1024 (constant (F := Ideal) S_ .f32 0x3A83126F#32)) (mulf a3 a3))))⟩, ⟨S3x256x1024, (extractStridedSlice S3x256x1024 ![1, 0, 0] a7 slices_S4x256x1024_S3x256x1024_1_0_0)⟩] concatenates_S1x256x1024_S3x256x1024_S4x256x1024_d0

end Cert.Reference19Ideal.Term

namespace Cert.Kernel19Ideal.Result

open Cert.Kernel19Ideal Cert.Kernel19Ideal.Gen Cert.Reference19Ideal.Term

variable (m : (ℓ : Loc nD τ sig) → Buf (Elt Ideal) ℓ)

/-- The index maps, in the point's number. -/
theorem idx_val : ∀ t : Fin cfg0.N, win0_0.index t = ![0, t.val, 0]
    ∧ win0_1.index t = ![0, t.val, 0]
    ∧ win0_2.index t = ![0, t.val, 0]
    ∧ win0_3.index t = ![t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

theorem point_4 (c : Dev nD) (t : Fin cfg0.N) (y) :
    k0_pay7 (iblk m c 3 t) y
      = ref_v32 (m ((c : Thread nD τ).loc main_arg3)) (m ((c : Thread nD τ).loc main_arg4)) (((cfg0.win 4).blk t).view.emb y) := by
  have h0 : (((cfg0.win 4).blk t).view.emb y (0 : Fin 3) : ℕ) < 1 := by blk_simp [idx_val t]; omega
  pointwise [k0_pay7, ref_v32]; blk_point [iblk, V, idx_val t]
  rename_i h _
  exact absurd h0 h

theorem rest_4 (c : Dev nD) (j : (cfg0.win 4).shape.Idx) (hj : ¬ (cfg0.win 4).cell j (0 : Fin 3) = 0) :
    (dats m 0 c).A 4 ((cfg0.win 4).arr.view.emb j) = ref_v32 (m ((c : Thread nD τ).loc main_arg3)) (m ((c : Thread nD τ).loc main_arg4)) ((cfg0.win 4).arr.view.emb j) := by
  blk_simp [Pipeline.Window.cell_apply] at hj
  pointwise [ref_v32]
  refine Eq.trans ?_ (dif_neg (show ¬ ((j (0 : Fin 3) : ℕ) < 1) by omega)).symm
  show V m c main_v0_0 _ = _
  entry_read
  blk_ext

theorem final_4 (c : Dev nD) : (dats m 0 c).arrAt 4 (cfgs 0).N = ref_v32 (m ((c : Thread nD τ).loc main_arg3)) (m ((c : Thread nD τ).loc main_arg4)) := by
  refine (dats m 0 c).arrAt_eq_of_coversWhere_of_agree 4 _ (fun β => β (0 : Fin 3) = 0) (by decide +kernel) (fun t hf y => ?_)
    (fun j hj => rest_4 m c j hj)
  blk_simp; rw [after0_4]; dsimp only [outsAt0]; frame_out
  exact point_4 m c t y

theorem point_5 (c : Dev nD) (t : Fin cfg0.N) (y) :
    k0_pay1 (k0_pay6 (iblk m c 3 t) (iblk m c 0 t) (iblk m c 1 t) (iblk m c 2 t)) y
      = ref_v35 (m ((c : Thread nD τ).loc main_arg0)) (m ((c : Thread nD τ).loc main_arg1)) (m ((c : Thread nD τ).loc main_arg2)) (m ((c : Thread nD τ).loc main_arg3)) (m ((c : Thread nD τ).loc main_arg5)) (((cfg0.win 5).blk t).view.emb y) := by
  have h0 : (((cfg0.win 5).blk t).view.emb y (0 : Fin 3) : ℕ) < 1 := by blk_simp [idx_val t]; omega
  pointwise [k0_pay1, k0_pay6, k0_pay4, k0_pay5, ref_v35]; blk_point [iblk, V, idx_val t]
  rename_i h _
  exact absurd h0 h

theorem rest_5 (c : Dev nD) (j : (cfg0.win 5).shape.Idx) (hj : ¬ (cfg0.win 5).cell j (0 : Fin 3) = 0) :
    (dats m 0 c).A 5 ((cfg0.win 5).arr.view.emb j) = ref_v35 (m ((c : Thread nD τ).loc main_arg0)) (m ((c : Thread nD τ).loc main_arg1)) (m ((c : Thread nD τ).loc main_arg2)) (m ((c : Thread nD τ).loc main_arg3)) (m ((c : Thread nD τ).loc main_arg5)) ((cfg0.win 5).arr.view.emb j) := by
  blk_simp [Pipeline.Window.cell_apply] at hj
  pointwise [ref_v35]
  refine Eq.trans ?_ (dif_neg (show ¬ ((j (0 : Fin 3) : ℕ) < 1) by omega)).symm
  show V m c main_v0_1 _ = _
  entry_read
  blk_ext

theorem final_5 (c : Dev nD) : (dats m 0 c).arrAt 5 (cfgs 0).N = ref_v35 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_coversWhere_of_agree 5 _ (fun β => β (0 : Fin 3) = 0) (by decide +kernel) (fun t hf y => ?_)
    (fun j hj => rest_5 m c j hj)
  blk_simp; rw [after0_5]; dsimp only [outsAt0]; frame_out
  exact point_5 m c t y

theorem point_6 (c : Dev nD) (t : Fin cfg0.N) (y) :
    k0_pay2 (k0_pay4 (iblk m c 3 t) (iblk m c 1 t)) y
      = ref_v38 (m ((c : Thread nD τ).loc main_arg1)) (m ((c : Thread nD τ).loc main_arg3)) (m ((c : Thread nD τ).loc main_arg6)) (((cfg0.win 6).blk t).view.emb y) := by
  have h0 : (((cfg0.win 6).blk t).view.emb y (0 : Fin 3) : ℕ) < 1 := by blk_simp [idx_val t]; omega
  pointwise [k0_pay2, k0_pay4, ref_v38]; blk_point [iblk, V, idx_val t]
  rename_i h _
  exact absurd h0 h

theorem rest_6 (c : Dev nD) (j : (cfg0.win 6).shape.Idx) (hj : ¬ (cfg0.win 6).cell j (0 : Fin 3) = 0) :
    (dats m 0 c).A 6 ((cfg0.win 6).arr.view.emb j) = ref_v38 (m ((c : Thread nD τ).loc main_arg1)) (m ((c : Thread nD τ).loc main_arg3)) (m ((c : Thread nD τ).loc main_arg6)) ((cfg0.win 6).arr.view.emb j) := by
  blk_simp [Pipeline.Window.cell_apply] at hj
  pointwise [ref_v38]
  refine Eq.trans ?_ (dif_neg (show ¬ ((j (0 : Fin 3) : ℕ) < 1) by omega)).symm
  show V m c main_v0_2 _ = _
  entry_read
  blk_ext

theorem final_6 (c : Dev nD) : (dats m 0 c).arrAt 6 (cfgs 0).N = ref_v38 (m ((c : Thread nD τ).loc main_arg1)) (m ((c : Thread nD τ).loc main_arg3)) (m ((c : Thread nD τ).loc main_arg6)) := by
  refine (dats m 0 c).arrAt_eq_of_coversWhere_of_agree 6 _ (fun β => β (0 : Fin 3) = 0) (by decide +kernel) (fun t hf y => ?_)
    (fun j hj => rest_6 m c j hj)
  blk_simp; rw [after0_6]; dsimp only [outsAt0]; frame_out
  exact point_6 m c t y

theorem point_7 (c : Dev nD) (t : Fin cfg0.N) (y) :
    k0_pay3 (k0_pay5 (iblk m c 3 t) (iblk m c 2 t)) y
      = ref_v41 (m ((c : Thread nD τ).loc main_arg2)) (m ((c : Thread nD τ).loc main_arg3)) (m ((c : Thread nD τ).loc main_arg7)) (((cfg0.win 7).blk t).view.emb y) := by
  have h0 : (((cfg0.win 7).blk t).view.emb y (0 : Fin 3) : ℕ) < 1 := by blk_simp [idx_val t]; omega
  pointwise [k0_pay3, k0_pay5, ref_v41]; blk_point [iblk, V, idx_val t]
  rename_i h _
  exact absurd h0 h

theorem rest_7 (c : Dev nD) (j : (cfg0.win 7).shape.Idx) (hj : ¬ (cfg0.win 7).cell j (0 : Fin 3) = 0) :
    (dats m 0 c).A 7 ((cfg0.win 7).arr.view.emb j) = ref_v41 (m ((c : Thread nD τ).loc main_arg2)) (m ((c : Thread nD τ).loc main_arg3)) (m ((c : Thread nD τ).loc main_arg7)) ((cfg0.win 7).arr.view.emb j) := by
  blk_simp [Pipeline.Window.cell_apply] at hj
  pointwise [ref_v41]
  refine Eq.trans ?_ (dif_neg (show ¬ ((j (0 : Fin 3) : ℕ) < 1) by omega)).symm
  show V m c main_v0_3 _ = _
  entry_read
  blk_ext

theorem final_7 (c : Dev nD) : (dats m 0 c).arrAt 7 (cfgs 0).N = ref_v41 (m ((c : Thread nD τ).loc main_arg2)) (m ((c : Thread nD τ).loc main_arg3)) (m ((c : Thread nD τ).loc main_arg7)) := by
  refine (dats m 0 c).arrAt_eq_of_coversWhere_of_agree 7 _ (fun β => β (0 : Fin 3) = 0) (by decide +kernel) (fun t hf y => ?_)
    (fun j hj => rest_7 m c j hj)
  blk_simp; rw [after0_7]; dsimp only [outsAt0]; frame_out
  exact point_7 m c t y

end Cert.Kernel19Ideal.Result

end
-- ==== Proof.Result20.lean ====
module

public import proofs.«01_k».proof.Proof.Gen.Kernel20Ideal.Frame
public import proofs.«01_k».proof.Proof.Gen.Reference20Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference20Ideal.Term

open Cert.Reference20Ideal Cert.Reference20Ideal.Gen

/-- The reference's result as one term of its arguments. -/
def ref_v32 (a3 : FVec Ideal S1024x1408 .f32) (a4 : FVec Ideal S4x1024x1408 .f32) : FVec Ideal S4x1024x1408 .f32 :=
  concatenate S4x1024x1408 0 [⟨S1x1024x1408, (broadcastInDim S1x1024x1408 ![1, 2] bcast_S1024x1408_S1x1024x1408_1_2 a3)⟩, ⟨S3x1024x1408, (extractStridedSlice S3x1024x1408 ![1, 0, 0] a4 slices_S4x1024x1408_S3x1024x1408_1_0_0)⟩] concatenates_S1x1024x1408_S3x1024x1408_S4x1024x1408_d0

/-- The reference's result as one term of its arguments. -/
def ref_v35 (a0 : FVec Ideal S4x1024x1408 .f32) (a1 : FVec Ideal S4x1024x1408 .f32) (a2 : FVec Ideal S4x1024x1408 .f32) (a3 : FVec Ideal S1024x1408 .f32) (a5 : FVec Ideal S4x1024x1408 .f32) : FVec Ideal S4x1024x1408 .f32 :=
  concatenate S4x1024x1408 0 [⟨S1x1024x1408, (broadcastInDim S1x1024x1408 ![1, 2] bcast_S1024x1408_S1x1024x1408_1_2 (mulf (broadcastInDim S1024x1408 ![] bcast_S_S1024x1408 (constant (F := Ideal) S_ .f32 0xBA83126F#32)) (addf (Host.divf (Host.divf (addf (mulf (broadcastInDim S1024x1408 ![] bcast_S_S1024x1408 (constant (F := Ideal) S_ .f32 0x3F666666#32)) (shapeCast _ (extractStridedSlice S1x1024x1408 ![0, 0, 0] a1 slices_S4x1024x1408_S1x1024x1408_0_0_0) shapeCasts_S1x1024x1408_S1024x1408)) (mulf (broadcastInDim S1024x1408 ![] bcast_S_S1024x1408 (constant (F := Ideal) S_ .f32 0x3DCCCCCD#32)) a3)) (broadcastInDim S1024x1408 ![] bcast_S_S1024x1408 (constant (F := Ideal) S_ .f32 0x3F26BD02#32))) (addf (Host.sqrt (Host.divf (addf (mulf (broadcastInDim S1024x1408 ![] bcast_S_S1024x1408 (constant (F := Ideal) S_ .f32 0x3F7FBE77#32)) (shapeCast _ (extractStridedSlice S1x1024x1408 ![0, 0, 0] a2 slices_S4x1024x1408_S1x1024x1408_0_0_0) shapeCasts_S1x1024x1408_S1024x1408)) (mulf (broadcastInDim S1024x1408 ![] bcast_S_S1024x1408 (constant (F := Ideal) S_ .f32 0x3A83126F#32)) (mulf a3 a3))) (broadcastInDim S1024x1408 ![] bcast_S_S1024x1408 (constant (F := Ideal) S_ .f32 0x3C231ACC#32)))) (broadcastInDim S1024x1408 ![] bcast_S_S1024x1408 (constant (F := Ideal) S_ .f32 0x322BCC77#32)))) (mulf (broadcastInDim S1024x1408 ![] bcast_S_S1024x1408 (constant (F := Ideal) S_ .f32 0x3C23D70A#32)) (shapeCast _ (extractStridedSlice S1x1024x1408 ![0, 0, 0] a0 slices_S4x1024x1408_S1x1024x1408_0_0_0) shapeCasts_S1x1024x1408_S1024x1408)))))⟩, ⟨S3x1024x1408, (extractStridedSlice S3x1024x1408 ![1, 0, 0] a5 slices_S4x1024x1408_S3x1024x1408_1_0_0)⟩] concatenates_S1x1024x1408_S3x1024x1408_S4x1024x1408_d0

/-- The reference's result as one term of its arguments. -/
def ref_v38 (a1 : FVec Ideal S4x1024x1408 .f32) (a3 : FVec Ideal S1024x1408 .f32) (a6 : FVec Ideal S4x1024x1408 .f32) : FVec Ideal S4x1024x1408 .f32 :=
  concatenate S4x1024x1408 0 [⟨S1x1024x1408, (broadcastInDim S1x1024x1408 ![1, 2] bcast_S1024x1408_S1x1024x1408_1_2 (addf (mulf (broadcastInDim S1024x1408 ![] bcast_S_S1024x1408 (constant (F := Ideal) S_ .f32 0x3F666666#32)) (shapeCast _ (extractStridedSlice S1x1024x1408 ![0, 0, 0] a1 slices_S4x1024x1408_S1x1024x1408_0_0_0) shapeCasts_S1x1024x1408_S1024x1408)) (mulf (broadcastInDim S1024x1408 ![] bcast_S_S1024x1408 (constant (F := Ideal) S_ .f32 0x3DCCCCCD#32)) a3)))⟩, ⟨S3x1024x1408, (extractStridedSlice S3x1024x1408 ![1, 0, 0] a6 slices_S4x1024x1408_S3x1024x1408_1_0_0)⟩] concatenates_S1x1024x1408_S3x1024x1408_S4x1024x1408_d0

/-- The reference's result as one term of its arguments. -/
def ref_v41 (a2 : FVec Ideal S4x1024x1408 .f32) (a3 : FVec Ideal S1024x1408 .f32) (a7 : FVec Ideal S4x1024x1408 .f32) : FVec Ideal S4x1024x1408 .f32 :=
  concatenate S4x1024x1408 0 [⟨S1x1024x1408, (broadcastInDim S1x1024x1408 ![1, 2] bcast_S1024x1408_S1x1024x1408_1_2 (addf (mulf (broadcastInDim S1024x1408 ![] bcast_S_S1024x1408 (constant (F := Ideal) S_ .f32 0x3F7FBE77#32)) (shapeCast _ (extractStridedSlice S1x1024x1408 ![0, 0, 0] a2 slices_S4x1024x1408_S1x1024x1408_0_0_0) shapeCasts_S1x1024x1408_S1024x1408)) (mulf (broadcastInDim S1024x1408 ![] bcast_S_S1024x1408 (constant (F := Ideal) S_ .f32 0x3A83126F#32)) (mulf a3 a3))))⟩, ⟨S3x1024x1408, (extractStridedSlice S3x1024x1408 ![1, 0, 0] a7 slices_S4x1024x1408_S3x1024x1408_1_0_0)⟩] concatenates_S1x1024x1408_S3x1024x1408_S4x1024x1408_d0

end Cert.Reference20Ideal.Term

namespace Cert.Kernel20Ideal.Result

open Cert.Kernel20Ideal Cert.Kernel20Ideal.Gen Cert.Reference20Ideal.Term

variable (m : (ℓ : Loc nD τ sig) → Buf (Elt Ideal) ℓ)

/-- The index maps, in the point's number. -/
theorem idx_val : ∀ t : Fin cfg0.N, win0_0.index t = ![0, t.val, 0]
    ∧ win0_1.index t = ![0, t.val, 0]
    ∧ win0_2.index t = ![0, t.val, 0]
    ∧ win0_3.index t = ![t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

theorem point_4 (c : Dev nD) (t : Fin cfg0.N) (y) :
    k0_pay7 (iblk m c 3 t) y
      = ref_v32 (m ((c : Thread nD τ).loc main_arg3)) (m ((c : Thread nD τ).loc main_arg4)) (((cfg0.win 4).blk t).view.emb y) := by
  have h0 : (((cfg0.win 4).blk t).view.emb y (0 : Fin 3) : ℕ) < 1 := by blk_simp [idx_val t]; omega
  pointwise [k0_pay7, ref_v32]; blk_point [iblk, V, idx_val t]
  rename_i h _
  exact absurd h0 h

theorem rest_4 (c : Dev nD) (j : (cfg0.win 4).shape.Idx) (hj : ¬ (cfg0.win 4).cell j (0 : Fin 3) = 0) :
    (dats m 0 c).A 4 ((cfg0.win 4).arr.view.emb j) = ref_v32 (m ((c : Thread nD τ).loc main_arg3)) (m ((c : Thread nD τ).loc main_arg4)) ((cfg0.win 4).arr.view.emb j) := by
  blk_simp [Pipeline.Window.cell_apply] at hj
  pointwise [ref_v32]
  refine Eq.trans ?_ (dif_neg (show ¬ ((j (0 : Fin 3) : ℕ) < 1) by omega)).symm
  show V m c main_v0_0 _ = _
  entry_read
  blk_ext

theorem final_4 (c : Dev nD) : (dats m 0 c).arrAt 4 (cfgs 0).N = ref_v32 (m ((c : Thread nD τ).loc main_arg3)) (m ((c : Thread nD τ).loc main_arg4)) := by
  refine (dats m 0 c).arrAt_eq_of_coversWhere_of_agree 4 _ (fun β => β (0 : Fin 3) = 0) (by decide +kernel) (fun t hf y => ?_)
    (fun j hj => rest_4 m c j hj)
  blk_simp; rw [after0_4]; dsimp only [outsAt0]; frame_out
  exact point_4 m c t y

theorem point_5 (c : Dev nD) (t : Fin cfg0.N) (y) :
    k0_pay1 (k0_pay6 (iblk m c 3 t) (iblk m c 0 t) (iblk m c 1 t) (iblk m c 2 t)) y
      = ref_v35 (m ((c : Thread nD τ).loc main_arg0)) (m ((c : Thread nD τ).loc main_arg1)) (m ((c : Thread nD τ).loc main_arg2)) (m ((c : Thread nD τ).loc main_arg3)) (m ((c : Thread nD τ).loc main_arg5)) (((cfg0.win 5).blk t).view.emb y) := by
  have h0 : (((cfg0.win 5).blk t).view.emb y (0 : Fin 3) : ℕ) < 1 := by blk_simp [idx_val t]; omega
  pointwise [k0_pay1, k0_pay6, k0_pay4, k0_pay5, ref_v35]; blk_point [iblk, V, idx_val t]
  rename_i h _
  exact absurd h0 h

theorem rest_5 (c : Dev nD) (j : (cfg0.win 5).shape.Idx) (hj : ¬ (cfg0.win 5).cell j (0 : Fin 3) = 0) :
    (dats m 0 c).A 5 ((cfg0.win 5).arr.view.emb j) = ref_v35 (m ((c : Thread nD τ).loc main_arg0)) (m ((c : Thread nD τ).loc main_arg1)) (m ((c : Thread nD τ).loc main_arg2)) (m ((c : Thread nD τ).loc main_arg3)) (m ((c : Thread nD τ).loc main_arg5)) ((cfg0.win 5).arr.view.emb j) := by
  blk_simp [Pipeline.Window.cell_apply] at hj
  pointwise [ref_v35]
  refine Eq.trans ?_ (dif_neg (show ¬ ((j (0 : Fin 3) : ℕ) < 1) by omega)).symm
  show V m c main_v0_1 _ = _
  entry_read
  blk_ext

theorem final_5 (c : Dev nD) : (dats m 0 c).arrAt 5 (cfgs 0).N = ref_v35 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_coversWhere_of_agree 5 _ (fun β => β (0 : Fin 3) = 0) (by decide +kernel) (fun t hf y => ?_)
    (fun j hj => rest_5 m c j hj)
  blk_simp; rw [after0_5]; dsimp only [outsAt0]; frame_out
  exact point_5 m c t y

theorem point_6 (c : Dev nD) (t : Fin cfg0.N) (y) :
    k0_pay2 (k0_pay4 (iblk m c 3 t) (iblk m c 1 t)) y
      = ref_v38 (m ((c : Thread nD τ).loc main_arg1)) (m ((c : Thread nD τ).loc main_arg3)) (m ((c : Thread nD τ).loc main_arg6)) (((cfg0.win 6).blk t).view.emb y) := by
  have h0 : (((cfg0.win 6).blk t).view.emb y (0 : Fin 3) : ℕ) < 1 := by blk_simp [idx_val t]; omega
  pointwise [k0_pay2, k0_pay4, ref_v38]; blk_point [iblk, V, idx_val t]
  rename_i h _
  exact absurd h0 h

theorem rest_6 (c : Dev nD) (j : (cfg0.win 6).shape.Idx) (hj : ¬ (cfg0.win 6).cell j (0 : Fin 3) = 0) :
    (dats m 0 c).A 6 ((cfg0.win 6).arr.view.emb j) = ref_v38 (m ((c : Thread nD τ).loc main_arg1)) (m ((c : Thread nD τ).loc main_arg3)) (m ((c : Thread nD τ).loc main_arg6)) ((cfg0.win 6).arr.view.emb j) := by
  blk_simp [Pipeline.Window.cell_apply] at hj
  pointwise [ref_v38]
  refine Eq.trans ?_ (dif_neg (show ¬ ((j (0 : Fin 3) : ℕ) < 1) by omega)).symm
  show V m c main_v0_2 _ = _
  entry_read
  blk_ext

theorem final_6 (c : Dev nD) : (dats m 0 c).arrAt 6 (cfgs 0).N = ref_v38 (m ((c : Thread nD τ).loc main_arg1)) (m ((c : Thread nD τ).loc main_arg3)) (m ((c : Thread nD τ).loc main_arg6)) := by
  refine (dats m 0 c).arrAt_eq_of_coversWhere_of_agree 6 _ (fun β => β (0 : Fin 3) = 0) (by decide +kernel) (fun t hf y => ?_)
    (fun j hj => rest_6 m c j hj)
  blk_simp; rw [after0_6]; dsimp only [outsAt0]; frame_out
  exact point_6 m c t y

theorem point_7 (c : Dev nD) (t : Fin cfg0.N) (y) :
    k0_pay3 (k0_pay5 (iblk m c 3 t) (iblk m c 2 t)) y
      = ref_v41 (m ((c : Thread nD τ).loc main_arg2)) (m ((c : Thread nD τ).loc main_arg3)) (m ((c : Thread nD τ).loc main_arg7)) (((cfg0.win 7).blk t).view.emb y) := by
  have h0 : (((cfg0.win 7).blk t).view.emb y (0 : Fin 3) : ℕ) < 1 := by blk_simp [idx_val t]; omega
  pointwise [k0_pay3, k0_pay5, ref_v41]; blk_point [iblk, V, idx_val t]
  rename_i h _
  exact absurd h0 h

theorem rest_7 (c : Dev nD) (j : (cfg0.win 7).shape.Idx) (hj : ¬ (cfg0.win 7).cell j (0 : Fin 3) = 0) :
    (dats m 0 c).A 7 ((cfg0.win 7).arr.view.emb j) = ref_v41 (m ((c : Thread nD τ).loc main_arg2)) (m ((c : Thread nD τ).loc main_arg3)) (m ((c : Thread nD τ).loc main_arg7)) ((cfg0.win 7).arr.view.emb j) := by
  blk_simp [Pipeline.Window.cell_apply] at hj
  pointwise [ref_v41]
  refine Eq.trans ?_ (dif_neg (show ¬ ((j (0 : Fin 3) : ℕ) < 1) by omega)).symm
  show V m c main_v0_3 _ = _
  entry_read
  blk_ext

theorem final_7 (c : Dev nD) : (dats m 0 c).arrAt 7 (cfgs 0).N = ref_v41 (m ((c : Thread nD τ).loc main_arg2)) (m ((c : Thread nD τ).loc main_arg3)) (m ((c : Thread nD τ).loc main_arg7)) := by
  refine (dats m 0 c).arrAt_eq_of_coversWhere_of_agree 7 _ (fun β => β (0 : Fin 3) = 0) (by decide +kernel) (fun t hf y => ?_)
    (fun j hj => rest_7 m c j hj)
  blk_simp; rw [after0_7]; dsimp only [outsAt0]; frame_out
  exact point_7 m c t y

end Cert.Kernel20Ideal.Result

end
-- ==== Proof.Result21.lean ====
module

public import proofs.«01_k».proof.Proof.Gen.Kernel21Ideal.Frame
public import proofs.«01_k».proof.Proof.Gen.Reference21Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference21Ideal.Term

open Cert.Reference21Ideal Cert.Reference21Ideal.Gen

/-- The reference's result as one term of its arguments. -/
def ref_v32 (a3 : FVec Ideal S704x1024 .f32) (a4 : FVec Ideal S4x704x1024 .f32) : FVec Ideal S4x704x1024 .f32 :=
  concatenate S4x704x1024 0 [⟨S1x704x1024, (broadcastInDim S1x704x1024 ![1, 2] bcast_S704x1024_S1x704x1024_1_2 a3)⟩, ⟨S3x704x1024, (extractStridedSlice S3x704x1024 ![1, 0, 0] a4 slices_S4x704x1024_S3x704x1024_1_0_0)⟩] concatenates_S1x704x1024_S3x704x1024_S4x704x1024_d0

/-- The reference's result as one term of its arguments. -/
def ref_v35 (a0 : FVec Ideal S4x704x1024 .f32) (a1 : FVec Ideal S4x704x1024 .f32) (a2 : FVec Ideal S4x704x1024 .f32) (a3 : FVec Ideal S704x1024 .f32) (a5 : FVec Ideal S4x704x1024 .f32) : FVec Ideal S4x704x1024 .f32 :=
  concatenate S4x704x1024 0 [⟨S1x704x1024, (broadcastInDim S1x704x1024 ![1, 2] bcast_S704x1024_S1x704x1024_1_2 (mulf (broadcastInDim S704x1024 ![] bcast_S_S704x1024 (constant (F := Ideal) S_ .f32 0xBA83126F#32)) (addf (Host.divf (Host.divf (addf (mulf (broadcastInDim S704x1024 ![] bcast_S_S704x1024 (constant (F := Ideal) S_ .f32 0x3F666666#32)) (shapeCast _ (extractStridedSlice S1x704x1024 ![0, 0, 0] a1 slices_S4x704x1024_S1x704x1024_0_0_0) shapeCasts_S1x704x1024_S704x1024)) (mulf (broadcastInDim S704x1024 ![] bcast_S_S704x1024 (constant (F := Ideal) S_ .f32 0x3DCCCCCD#32)) a3)) (broadcastInDim S704x1024 ![] bcast_S_S704x1024 (constant (F := Ideal) S_ .f32 0x3F26BD02#32))) (addf (Host.sqrt (Host.divf (addf (mulf (broadcastInDim S704x1024 ![] bcast_S_S704x1024 (constant (F := Ideal) S_ .f32 0x3F7FBE77#32)) (shapeCast _ (extractStridedSlice S1x704x1024 ![0, 0, 0] a2 slices_S4x704x1024_S1x704x1024_0_0_0) shapeCasts_S1x704x1024_S704x1024)) (mulf (broadcastInDim S704x1024 ![] bcast_S_S704x1024 (constant (F := Ideal) S_ .f32 0x3A83126F#32)) (mulf a3 a3))) (broadcastInDim S704x1024 ![] bcast_S_S704x1024 (constant (F := Ideal) S_ .f32 0x3C231ACC#32)))) (broadcastInDim S704x1024 ![] bcast_S_S704x1024 (constant (F := Ideal) S_ .f32 0x322BCC77#32)))) (mulf (broadcastInDim S704x1024 ![] bcast_S_S704x1024 (constant (F := Ideal) S_ .f32 0x3C23D70A#32)) (shapeCast _ (extractStridedSlice S1x704x1024 ![0, 0, 0] a0 slices_S4x704x1024_S1x704x1024_0_0_0) shapeCasts_S1x704x1024_S704x1024)))))⟩, ⟨S3x704x1024, (extractStridedSlice S3x704x1024 ![1, 0, 0] a5 slices_S4x704x1024_S3x704x1024_1_0_0)⟩] concatenates_S1x704x1024_S3x704x1024_S4x704x1024_d0

/-- The reference's result as one term of its arguments. -/
def ref_v38 (a1 : FVec Ideal S4x704x1024 .f32) (a3 : FVec Ideal S704x1024 .f32) (a6 : FVec Ideal S4x704x1024 .f32) : FVec Ideal S4x704x1024 .f32 :=
  concatenate S4x704x1024 0 [⟨S1x704x1024, (broadcastInDim S1x704x1024 ![1, 2] bcast_S704x1024_S1x704x1024_1_2 (addf (mulf (broadcastInDim S704x1024 ![] bcast_S_S704x1024 (constant (F := Ideal) S_ .f32 0x3F666666#32)) (shapeCast _ (extractStridedSlice S1x704x1024 ![0, 0, 0] a1 slices_S4x704x1024_S1x704x1024_0_0_0) shapeCasts_S1x704x1024_S704x1024)) (mulf (broadcastInDim S704x1024 ![] bcast_S_S704x1024 (constant (F := Ideal) S_ .f32 0x3DCCCCCD#32)) a3)))⟩, ⟨S3x704x1024, (extractStridedSlice S3x704x1024 ![1, 0, 0] a6 slices_S4x704x1024_S3x704x1024_1_0_0)⟩] concatenates_S1x704x1024_S3x704x1024_S4x704x1024_d0

/-- The reference's result as one term of its arguments. -/
def ref_v41 (a2 : FVec Ideal S4x704x1024 .f32) (a3 : FVec Ideal S704x1024 .f32) (a7 : FVec Ideal S4x704x1024 .f32) : FVec Ideal S4x704x1024 .f32 :=
  concatenate S4x704x1024 0 [⟨S1x704x1024, (broadcastInDim S1x704x1024 ![1, 2] bcast_S704x1024_S1x704x1024_1_2 (addf (mulf (broadcastInDim S704x1024 ![] bcast_S_S704x1024 (constant (F := Ideal) S_ .f32 0x3F7FBE77#32)) (shapeCast _ (extractStridedSlice S1x704x1024 ![0, 0, 0] a2 slices_S4x704x1024_S1x704x1024_0_0_0) shapeCasts_S1x704x1024_S704x1024)) (mulf (broadcastInDim S704x1024 ![] bcast_S_S704x1024 (constant (F := Ideal) S_ .f32 0x3A83126F#32)) (mulf a3 a3))))⟩, ⟨S3x704x1024, (extractStridedSlice S3x704x1024 ![1, 0, 0] a7 slices_S4x704x1024_S3x704x1024_1_0_0)⟩] concatenates_S1x704x1024_S3x704x1024_S4x704x1024_d0

end Cert.Reference21Ideal.Term

namespace Cert.Kernel21Ideal.Result

open Cert.Kernel21Ideal Cert.Kernel21Ideal.Gen Cert.Reference21Ideal.Term

variable (m : (ℓ : Loc nD τ sig) → Buf (Elt Ideal) ℓ)

/-- The index maps, in the point's number. -/
theorem idx_val : ∀ t : Fin cfg0.N, win0_0.index t = ![0, t.val, 0]
    ∧ win0_1.index t = ![0, t.val, 0]
    ∧ win0_2.index t = ![0, t.val, 0]
    ∧ win0_3.index t = ![t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

theorem point_4 (c : Dev nD) (t : Fin cfg0.N) (y) :
    k0_pay7 (iblk m c 3 t) y
      = ref_v32 (m ((c : Thread nD τ).loc main_arg3)) (m ((c : Thread nD τ).loc main_arg4)) (((cfg0.win 4).blk t).view.emb y) := by
  have h0 : (((cfg0.win 4).blk t).view.emb y (0 : Fin 3) : ℕ) < 1 := by blk_simp [idx_val t]; omega
  pointwise [k0_pay7, ref_v32]; blk_point [iblk, V, idx_val t]
  rename_i h _
  exact absurd h0 h

theorem rest_4 (c : Dev nD) (j : (cfg0.win 4).shape.Idx) (hj : ¬ (cfg0.win 4).cell j (0 : Fin 3) = 0) :
    (dats m 0 c).A 4 ((cfg0.win 4).arr.view.emb j) = ref_v32 (m ((c : Thread nD τ).loc main_arg3)) (m ((c : Thread nD τ).loc main_arg4)) ((cfg0.win 4).arr.view.emb j) := by
  blk_simp [Pipeline.Window.cell_apply] at hj
  pointwise [ref_v32]
  refine Eq.trans ?_ (dif_neg (show ¬ ((j (0 : Fin 3) : ℕ) < 1) by omega)).symm
  show V m c main_v0_0 _ = _
  entry_read
  blk_ext

theorem final_4 (c : Dev nD) : (dats m 0 c).arrAt 4 (cfgs 0).N = ref_v32 (m ((c : Thread nD τ).loc main_arg3)) (m ((c : Thread nD τ).loc main_arg4)) := by
  refine (dats m 0 c).arrAt_eq_of_coversWhere_of_agree 4 _ (fun β => β (0 : Fin 3) = 0) (by decide +kernel) (fun t hf y => ?_)
    (fun j hj => rest_4 m c j hj)
  blk_simp; rw [after0_4]; dsimp only [outsAt0]; frame_out
  exact point_4 m c t y

theorem point_5 (c : Dev nD) (t : Fin cfg0.N) (y) :
    k0_pay1 (k0_pay6 (iblk m c 3 t) (iblk m c 0 t) (iblk m c 1 t) (iblk m c 2 t)) y
      = ref_v35 (m ((c : Thread nD τ).loc main_arg0)) (m ((c : Thread nD τ).loc main_arg1)) (m ((c : Thread nD τ).loc main_arg2)) (m ((c : Thread nD τ).loc main_arg3)) (m ((c : Thread nD τ).loc main_arg5)) (((cfg0.win 5).blk t).view.emb y) := by
  have h0 : (((cfg0.win 5).blk t).view.emb y (0 : Fin 3) : ℕ) < 1 := by blk_simp [idx_val t]; omega
  pointwise [k0_pay1, k0_pay6, k0_pay4, k0_pay5, ref_v35]; blk_point [iblk, V, idx_val t]
  rename_i h _
  exact absurd h0 h

theorem rest_5 (c : Dev nD) (j : (cfg0.win 5).shape.Idx) (hj : ¬ (cfg0.win 5).cell j (0 : Fin 3) = 0) :
    (dats m 0 c).A 5 ((cfg0.win 5).arr.view.emb j) = ref_v35 (m ((c : Thread nD τ).loc main_arg0)) (m ((c : Thread nD τ).loc main_arg1)) (m ((c : Thread nD τ).loc main_arg2)) (m ((c : Thread nD τ).loc main_arg3)) (m ((c : Thread nD τ).loc main_arg5)) ((cfg0.win 5).arr.view.emb j) := by
  blk_simp [Pipeline.Window.cell_apply] at hj
  pointwise [ref_v35]
  refine Eq.trans ?_ (dif_neg (show ¬ ((j (0 : Fin 3) : ℕ) < 1) by omega)).symm
  show V m c main_v0_1 _ = _
  entry_read
  blk_ext

theorem final_5 (c : Dev nD) : (dats m 0 c).arrAt 5 (cfgs 0).N = ref_v35 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_coversWhere_of_agree 5 _ (fun β => β (0 : Fin 3) = 0) (by decide +kernel) (fun t hf y => ?_)
    (fun j hj => rest_5 m c j hj)
  blk_simp; rw [after0_5]; dsimp only [outsAt0]; frame_out
  exact point_5 m c t y

theorem point_6 (c : Dev nD) (t : Fin cfg0.N) (y) :
    k0_pay2 (k0_pay4 (iblk m c 3 t) (iblk m c 1 t)) y
      = ref_v38 (m ((c : Thread nD τ).loc main_arg1)) (m ((c : Thread nD τ).loc main_arg3)) (m ((c : Thread nD τ).loc main_arg6)) (((cfg0.win 6).blk t).view.emb y) := by
  have h0 : (((cfg0.win 6).blk t).view.emb y (0 : Fin 3) : ℕ) < 1 := by blk_simp [idx_val t]; omega
  pointwise [k0_pay2, k0_pay4, ref_v38]; blk_point [iblk, V, idx_val t]
  rename_i h _
  exact absurd h0 h

theorem rest_6 (c : Dev nD) (j : (cfg0.win 6).shape.Idx) (hj : ¬ (cfg0.win 6).cell j (0 : Fin 3) = 0) :
    (dats m 0 c).A 6 ((cfg0.win 6).arr.view.emb j) = ref_v38 (m ((c : Thread nD τ).loc main_arg1)) (m ((c : Thread nD τ).loc main_arg3)) (m ((c : Thread nD τ).loc main_arg6)) ((cfg0.win 6).arr.view.emb j) := by
  blk_simp [Pipeline.Window.cell_apply] at hj
  pointwise [ref_v38]
  refine Eq.trans ?_ (dif_neg (show ¬ ((j (0 : Fin 3) : ℕ) < 1) by omega)).symm
  show V m c main_v0_2 _ = _
  entry_read
  blk_ext

theorem final_6 (c : Dev nD) : (dats m 0 c).arrAt 6 (cfgs 0).N = ref_v38 (m ((c : Thread nD τ).loc main_arg1)) (m ((c : Thread nD τ).loc main_arg3)) (m ((c : Thread nD τ).loc main_arg6)) := by
  refine (dats m 0 c).arrAt_eq_of_coversWhere_of_agree 6 _ (fun β => β (0 : Fin 3) = 0) (by decide +kernel) (fun t hf y => ?_)
    (fun j hj => rest_6 m c j hj)
  blk_simp; rw [after0_6]; dsimp only [outsAt0]; frame_out
  exact point_6 m c t y

theorem point_7 (c : Dev nD) (t : Fin cfg0.N) (y) :
    k0_pay3 (k0_pay5 (iblk m c 3 t) (iblk m c 2 t)) y
      = ref_v41 (m ((c : Thread nD τ).loc main_arg2)) (m ((c : Thread nD τ).loc main_arg3)) (m ((c : Thread nD τ).loc main_arg7)) (((cfg0.win 7).blk t).view.emb y) := by
  have h0 : (((cfg0.win 7).blk t).view.emb y (0 : Fin 3) : ℕ) < 1 := by blk_simp [idx_val t]; omega
  pointwise [k0_pay3, k0_pay5, ref_v41]; blk_point [iblk, V, idx_val t]
  rename_i h _
  exact absurd h0 h

theorem rest_7 (c : Dev nD) (j : (cfg0.win 7).shape.Idx) (hj : ¬ (cfg0.win 7).cell j (0 : Fin 3) = 0) :
    (dats m 0 c).A 7 ((cfg0.win 7).arr.view.emb j) = ref_v41 (m ((c : Thread nD τ).loc main_arg2)) (m ((c : Thread nD τ).loc main_arg3)) (m ((c : Thread nD τ).loc main_arg7)) ((cfg0.win 7).arr.view.emb j) := by
  blk_simp [Pipeline.Window.cell_apply] at hj
  pointwise [ref_v41]
  refine Eq.trans ?_ (dif_neg (show ¬ ((j (0 : Fin 3) : ℕ) < 1) by omega)).symm
  show V m c main_v0_3 _ = _
  entry_read
  blk_ext

theorem final_7 (c : Dev nD) : (dats m 0 c).arrAt 7 (cfgs 0).N = ref_v41 (m ((c : Thread nD τ).loc main_arg2)) (m ((c : Thread nD τ).loc main_arg3)) (m ((c : Thread nD τ).loc main_arg7)) := by
  refine (dats m 0 c).arrAt_eq_of_coversWhere_of_agree 7 _ (fun β => β (0 : Fin 3) = 0) (by decide +kernel) (fun t hf y => ?_)
    (fun j hj => rest_7 m c j hj)
  blk_simp; rw [after0_7]; dsimp only [outsAt0]; frame_out
  exact point_7 m c t y

end Cert.Kernel21Ideal.Result

end
-- ==== Proof.Frame22.lean ====
module

public import proofs.«01_k».proof.Proof.Gen.Kernel22Ideal.Frame.RunA
public import Idealize.ShloMosaic.Lib.Claim
public import Idealize.ShloMosaic.Lib.Pipeline.Value

@[expose] public section

set_option maxRecDepth 16384

noncomputable section

/-! The run of `Kernel22Ideal`, the attention's forward call, and what its two arrays hold after it. -/

namespace Cert.Kernel22Ideal.Own

open Cert.Kernel22Ideal Cert.Kernel22Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The eight stores of the output block cover it. -/
theorem cover0_A_3 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x256 .f32) (harg6 : arg6.IsWhole)
    (x0 : Vec F S1024x128 .bf16) (x1 : Vec F S2048x128 .bf16) (x2 : Vec F S2048x128 .bf16) (y : S1024x128.Idx) :
    ∃ pc ∈ (kernelRun0_A c i arg2 harg2 arg3 harg3 arg4 harg4 arg5 harg5 arg6 harg6 x0 x1 x2).1, y ∈ pc.1.set :=
  View.cover_of_tiledL (kernelRun0_A c i arg2 harg2 arg3 harg3 arg4 harg4 arg5 harg5 arg6 harg6 x0 x1 x2).1 S128x128.size (by sl_kernel_rfl) y

/-- What the body leaves of the attention output at one grid point. -/
def out0_A_3 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x256 .f32) (harg6 : arg6.IsWhole)
    (x0 : Vec F S1024x128 .bf16) (x1 : Vec F S2048x128 .bf16) (x2 : Vec F S2048x128 .bf16) : Vec F S1024x128 .f32 :=
  VO0_3.read (Elt F) (VO0_3.writes (Elt F) VO0_3.junk (kernelRun0_A c i arg2 harg2 arg3 harg3 arg4 harg4 arg5 harg5 arg6 harg6 x0 x1 x2).1)

/-- The eight stores of the totals block cover it. -/
theorem cover0_A_4 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x256 .f32) (harg6 : arg6.IsWhole)
    (x0 : Vec F S1024x128 .bf16) (x1 : Vec F S2048x128 .bf16) (x2 : Vec F S2048x128 .bf16) (y : S1024x256.Idx) :
    ∃ pc ∈ (kernelRun0_A c i arg2 harg2 arg3 harg3 arg4 harg4 arg5 harg5 arg6 harg6 x0 x1 x2).2.1, y ∈ pc.1.set :=
  View.cover_of_tiledL (kernelRun0_A c i arg2 harg2 arg3 harg3 arg4 harg4 arg5 harg5 arg6 harg6 x0 x1 x2).2.1 S128x256.size (by sl_kernel_rfl) y

/-- What the body leaves of the totals at one grid point. -/
def out0_A_4 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x256 .f32) (harg6 : arg6.IsWhole)
    (x0 : Vec F S1024x128 .bf16) (x1 : Vec F S2048x128 .bf16) (x2 : Vec F S2048x128 .bf16) : Vec F S1024x256 .f32 :=
  VO0_4.read (Elt F) (VO0_4.writes (Elt F) VO0_4.junk (kernelRun0_A c i arg2 harg2 arg3 harg3 arg4 harg4 arg5 harg5 arg6 harg6 x0 x1 x2).2.1)

/-! ## What the outputs hold after each point -/

/-- The two blocks after the body at point `t`. -/
def outsAt0 (c : Dev nD) (t : Fin cfg0.N) : Vec F S1024x128 .f32 × Vec F S1024x256 .f32 :=
  (out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t))

/-! ## The pipeline's proof data -/

/-- The proof data of the pipeline on core `c`: the arrays as found, and after the body each input at its block and the outputs at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2
  Φ _ := Pipeline.ΦA spec0 c
  q w := Pipeline.shareOf spec0 w
  owed _ := 0

/-- The arrays of the proof data are those the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2 := by dsimp only [dats]

/-- Each input window holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt0
  unfold out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _)
  unfold owns; iexists _; isplitr
  swap; · iexact H4
  ipureintro; exact View.read_writes_of_cover _ _ _ _ _ (cover0_A_4 c _ _ _ _ _ _ _ _ _ _ _ _ _ _)

/-- The table's row at point `t` is the body. -/
theorem defs₀_row (t : Fin cfg0.N) :
    defs₀ (F := F) .tc cfg0.body (cfg0.bodyArgs t (cfg0.slots t)) = bodyAt0 t := by
  unfold defs₀; rw [Defs.onTc_tc]

/-- The obligation of the pipeline at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- The run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run: every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

/-- What point `t` writes back of the attention output. -/
theorem flushed3 (c : Dev nD) (t : Fin cfg0.N) :
    (dats m 0 c).flushed 3 t = (cfg0.win 3).cut (grid0.coords t) ((outsAt0 m c t).1) := by
  show (cfg0.win 3).cut (grid0.coords t) ((dats m 0 c).after 3 t) = _
  rw [after0_3]

/-- What point `t` writes back of the totals. -/
theorem flushed4 (c : Dev nD) (t : Fin cfg0.N) :
    (dats m 0 c).flushed 4 t = (cfg0.win 4).cut (grid0.coords t) ((outsAt0 m c t).2) := by
  show (cfg0.win 4).cut (grid0.coords t) ((dats m 0 c).after 4 t) = _
  rw [after0_4]

/-- The attention output after the run. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- The totals after the run. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- The argument after the run. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

end Cert.Kernel22Ideal.Own

end
-- ==== Proof.Steps22.lean ====
module

public import proofs.«01_k».proof.Proof.Gen.Kernel22Ideal.Frame.RunA

@[expose] public section

set_option maxRecDepth 16384

noncomputable section

/-! One key block's step of `Kernel22Ideal`'s attention, on one block of 128 queries: the scores of the two heads of the
pair side by side, their log-survivals, and what the block adds to the carried output and the two carried totals. The
printed body unrolls this step for its eight query blocks; here it is written once. -/

namespace Cert.Kernel22Ideal.Steps

open Idealize.ShloMosaic Idealize.ShloMosaic.TcCoe Idealize.SL.Sem
open Cert.Kernel22Ideal Cert.Kernel22Ideal.Gen

variable {F : FTy → Type} [FloatOps F]

/-- The carry of one query block: the output so far, and per head the total of the log-survivals so far. -/
structure Carry (F : FTy → Type) where
  acc : FVec F S128x128 .f32
  c0 : FVec F S128x128 .f32
  c1 : FVec F S128x128 .f32

/-- A block of keys or values, its rows once per head of the pair, each time with the other head's lanes cleared. -/
def stack (x : FVec F S128x128 .bf16) : FVec F S256x128 .bf16 :=
  concatenate S256x128 0 [⟨S128x128, select k0_pay154 x (broadcast S128x128 (Scalar.ofBits .bf16 0x0000#16))⟩,
    ⟨S128x128, select k0_pay154 (broadcast S128x128 (Scalar.ofBits .bf16 0x0000#16)) x⟩] concatenates_S128x128_S128x128_S256x128_d0

/-- The scores of a query block against a key block. -/
def score (q k : FVec F S128x128 .bf16) : FVec F S128x256 .f32 :=
  matmul dot_S128x128_S256x128_S128x256_1_1_0_0_n_n none q (stack k) (constant S128x256 .f32 0x00000000#32)

def softplus (z : FVec F S128x256 .f32) : FVec F S128x256 .f32 :=
  addf (maximumf z (broadcast S128x256 (Scalar.ofBits .f32 0x00000000#32)))
    (log (addf (broadcast S128x256 (Scalar.ofBits .f32 0x3F800000#32)) (exp (subf (broadcast S128x256 (Scalar.ofBits .f32 0x00000000#32)) (absf z)))))

/-- The log-survivals of a score. -/
def lnb (z : FVec F S128x256 .f32) : FVec F S128x256 .f32 :=
  subf (broadcast S128x256 (Scalar.ofBits .f32 0x00000000#32)) (softplus z)

/-- The same with those of keys that are not before the query cleared. -/
def lnbD (z : FVec F S128x256 .f32) : FVec F S128x256 .f32 :=
  select k0_pay156 (lnb z) (broadcast S128x256 (Scalar.ofBits .f32 0x00000000#32))

def hi (l : FVec F S128x256 .f32) : FVec F S128x256 .bf16 := truncf .bf16 l bitsLt_bf16_f32

def lo (l : FVec F S128x256 .f32) : FVec F S128x256 .bf16 :=
  truncf .bf16 (subf l (extf .f32 (hi l) bitsLt_bf16_f32)) bitsLt_bf16_f32

/-- The sums of the log-survivals of one head: over the later keys of the block in the first half, over all in the second. -/
def cum0 (l : FVec F S128x256 .f32) : FVec F S128x256 .f32 :=
  matmul dot_S128x256_S256x256_S128x256_1_0_0_1_n_n none
    (concatenate S128x256 1 [⟨S128x128, extractStridedSlice S128x128 ![0, 0] (hi l) slices_S128x256_o0_0_S128x128⟩,
      ⟨S128x128, extractStridedSlice S128x128 ![0, 0] (lo l) slices_S128x256_o0_0_S128x128⟩] concatenates_S128x128_S128x128_S128x256_d1)
    (k0_pay155 (F := F)) (constant S128x256 .f32 0x00000000#32)

def cum1 (l : FVec F S128x256 .f32) : FVec F S128x256 .f32 :=
  matmul dot_S128x256_S256x256_S128x256_1_0_0_1_n_n none
    (concatenate S128x256 1 [⟨S128x128, extractStridedSlice S128x128 ![0, 128] (hi l) slices_S128x256_o0_128_S128x128⟩,
      ⟨S128x128, extractStridedSlice S128x128 ![0, 128] (lo l) slices_S128x256_o0_128_S128x128⟩] concatenates_S128x128_S128x128_S128x256_d1)
    (k0_pay155 (F := F)) (constant S128x256 .f32 0x00000000#32)

/-- The weights of a key block. -/
def att (z l : FVec F S128x256 .f32) (c0 c1 : FVec F S128x128 .f32) : FVec F S128x256 .f32 :=
  exp (addf (subf z (softplus z))
    (concatenate S128x256 1 [⟨S128x128, addf (extractStridedSlice S128x128 ![0, 0] (cum0 l) slices_S128x256_o0_0_S128x128) c0⟩,
      ⟨S128x128, addf (extractStridedSlice S128x128 ![0, 0] (cum1 l) slices_S128x256_o0_0_S128x128) c1⟩] concatenates_S128x128_S128x128_S128x256_d1))

def weigh (a : FVec F S128x256 .f32) (v : FVec F S128x128 .bf16) : FVec F S128x128 .f32 :=
  matmul dot_S128x256_S256x128_S128x128_1_0_0_1_n_n none (truncf .bf16 a bitsLt_bf16_f32) (stack v) (constant S128x128 .f32 0x00000000#32)

/-- A key block that is before the query block. -/
def stepN (q k v : FVec F S128x128 .bf16) (s : Carry F) : Carry F where
  acc := addf s.acc (weigh (att (score q k) (lnb (score q k)) s.c0 s.c1) v)
  c0 := addf s.c0 (extractStridedSlice S128x128 ![0, 128] (cum0 (lnb (score q k))) slices_S128x256_o0_128_S128x128)
  c1 := addf s.c1 (extractStridedSlice S128x128 ![0, 128] (cum1 (lnb (score q k))) slices_S128x256_o0_128_S128x128)

/-- The key block of the query block itself. -/
def stepD (q k v : FVec F S128x128 .bf16) (s : Carry F) : Carry F where
  acc := addf s.acc (weigh (select k0_pay156 (att (score q k) (lnbD (score q k)) s.c0 s.c1)
    (broadcast S128x256 (Scalar.ofBits .f32 0x00000000#32))) v)
  c0 := addf s.c0 (extractStridedSlice S128x128 ![0, 128] (cum0 (lnbD (score q k))) slices_S128x256_o0_128_S128x128)
  c1 := addf s.c1 (extractStridedSlice S128x128 ![0, 128] (cum1 (lnbD (score q k))) slices_S128x256_o0_128_S128x128)

def zero : Carry F := ⟨k0_pay157, k0_pay157, k0_pay157⟩

/-- Eight query blocks' carries as the loop carries them. -/
def flat (s : Fin 8 → Carry F) :=
  ((s 0).acc, (s 0).c0, (s 0).c1, (s 1).acc, (s 1).c0, (s 1).c1, (s 2).acc, (s 2).c0, (s 2).c1, (s 3).acc, (s 3).c0, (s 3).c1, (s 4).acc, (s 4).c0, (s 4).c1, (s 5).acc, (s 5).c0, (s 5).c1, (s 6).acc, (s 6).c0, (s 6).c1, (s 7).acc, (s 7).c0, (s 7).c1)

/-- A block of 128 rows of the keys or values, as the body loads it. -/
abbrev rows (arg : Memref sig .tc .vmem S2048x128 .bf16) (X : BufTy.Contents (Elt F) arg.view.ty) (off : Fin 2 → Nat)
    (h : ∀ a, off a + S128x128.size a ≤ S2048x128.size a) : FVec F S128x128 .bf16 :=
  View.readAt (Elt F) arg.view (Rect.unit (s := S2048x128) off S128x128.size h).toLoadRect X

set_option maxHeartbeats 4000000 in
theorem trip_eq (𝒱 : Variants) (c : Dev nD) (bd : Option 𝒱.V) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x256 .f32) (harg6 : arg6.IsWhole) (arg1 : BitVec 32) (q : Fin 8 → Vec F S128x128 .bf16) (v1258 : FVec F S128x128 .f32) (v1260 : FVec F S128x128 .f32) (v1261 : FVec F S128x128 .f32) (v1263 : FVec F S128x128 .f32) (v1265 : FVec F S128x128 .f32) (v1266 : FVec F S128x128 .f32) (v1268 : FVec F S128x128 .f32) (v1270 : FVec F S128x128 .f32) (v1271 : FVec F S128x128 .f32) (v1273 : FVec F S128x128 .f32) (v1275 : FVec F S128x128 .f32) (v1276 : FVec F S128x128 .f32) (v1278 : FVec F S128x128 .f32) (v1280 : FVec F S128x128 .f32) (v1281 : FVec F S128x128 .f32) (v1283 : FVec F S128x128 .f32) (v1285 : FVec F S128x128 .f32) (v1439 : FVec F S128x256 .f32) (v1443 : FVec F S128x256 .f32) (v1451 : FVec F S128x256 .f32) (v1455 : FVec F S128x256 .f32) (v1463 : FVec F S128x256 .f32) (v1467 : FVec F S128x256 .f32) (v1475 : FVec F S128x256 .f32) (v1479 : FVec F S128x256 .f32) (v1487 : FVec F S128x256 .f32) (v1491 : FVec F S128x256 .f32) (v1499 : FVec F S128x256 .f32) (v1503 : FVec F S128x256 .f32) (v1577 : FVec F S128x128 .f32) (v1579 : FVec F S128x128 .f32) (v1581 : FVec F S128x128 .f32) (v1583 : FVec F S128x128 .f32) (v1585 : FVec F S128x128 .f32) (v1586 : FVec F S128x128 .f32) (v1588 : FVec F S128x128 .f32) (v1590 : FVec F S128x128 .f32) (v1591 : FVec F S128x128 .f32) (v1593 : FVec F S128x128 .f32) (v1595 : FVec F S128x128 .f32) (v1596 : FVec F S128x128 .f32)
    (X_arg3 : BufTy.Contents (Elt F) arg3.view.ty) (X_arg4 : BufTy.Contents (Elt F) arg4.view.ty) (k : Fin (k0_t1_loop i).trips) (s : Fin 8 → Carry F) :
    tripR_k0_t1 (F := F) 𝒱 c bd i arg2 harg2 arg3 harg3 arg4 harg4 arg5 harg5 arg6 harg6 arg1 k0_pay154 k0_pay155 (q 0) (q 1) (q 2) (q 3) (q 4) (q 5) (q 6) (q 7) v1258 v1260 v1261 v1263 v1265 v1266 v1268 v1270 v1271 v1273 v1275 v1276 v1278 v1280 v1281 v1283 v1285 v1439 v1443 v1451 v1455 v1463 v1467 v1475 v1479 v1487 v1491 v1499 v1503 v1577 v1579 v1581 v1583 v1585 v1586 v1588 v1590 v1591 v1593 v1595 v1596 X_arg3 X_arg4 k (flat s)
      = flat fun a => stepN (q a) (rows arg3 X_arg3 (k0_off2 i k) (k0_off2_inb i k)) (rows arg4 X_arg4 (k0_off2 i k) (k0_off2_inb i k)) (s a) := by
  sl_kernel_rfl

end Cert.Kernel22Ideal.Steps

end
-- ==== Proof.Chain22.lean ====
module

public import proofs.«01_k».proof.Proof.Steps22
public import Idealize.ShloMosaic.Lib.WholeRead
public import Idealize.ShloMosaic.Lib.Pointwise

@[expose] public section

set_option maxRecDepth 16384

noncomputable section

/-! The whole body of `Kernel22Ideal`: each of the eight query blocks is carried from its own key block back to the first,
and the stores hold the carries that are left. -/

namespace Cert.Kernel22Ideal.Steps

open Idealize.ShloMosaic Idealize.ShloMosaic.TcCoe Idealize.SL.Sem
open Cert.Kernel22Ideal Cert.Kernel22Ideal.Gen

variable {F : FTy → Type} [FloatOps F]

/-- The carry of a query block that starts at key block `B`, after `n` further blocks. -/
def chain (q : FVec F S128x128 .bf16) (K V : ℕ → FVec F S128x128 .bf16) (B : ℕ) : ℕ → Carry F
  | 0 => stepD q (K B) (V B) zero
  | n + 1 => stepN q (K (B - (n + 1))) (V (B - (n + 1))) (chain q K V B n)

theorem chain_congr (q : FVec F S128x128 .bf16) (K V K' V' : ℕ → FVec F S128x128 .bf16) (B : ℕ) (a : ℕ) (ha : a < 8)
    (hK : ∀ j, j < 8 → K j = K' (B + j)) (hV : ∀ j, j < 8 → V j = V' (B + j)) :
    ∀ n, n ≤ a → chain q K V a n = chain q K' V' (B + a) n
  | 0, _ => by simp only [chain, hK a ha, hV a ha]
  | n + 1, h => by
    simp only [chain, chain_congr q K V K' V' B a ha hK hV n (by omega), hK (a - (n + 1)) (by omega), hV (a - (n + 1)) (by omega)]
    rw [show B + (a - (n + 1)) = B + a - (n + 1) by omega]

/-- The carries before trip `n` of the loop over the earlier key blocks. -/
theorem state_eq (𝒱 : Variants) (c : Dev nD) (bd : Option 𝒱.V) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x256 .f32) (harg6 : arg6.IsWhole) (arg1 : BitVec 32) (q : Fin 8 → Vec F S128x128 .bf16) (v1258 : FVec F S128x128 .f32) (v1260 : FVec F S128x128 .f32) (v1261 : FVec F S128x128 .f32) (v1263 : FVec F S128x128 .f32) (v1265 : FVec F S128x128 .f32) (v1266 : FVec F S128x128 .f32) (v1268 : FVec F S128x128 .f32) (v1270 : FVec F S128x128 .f32) (v1271 : FVec F S128x128 .f32) (v1273 : FVec F S128x128 .f32) (v1275 : FVec F S128x128 .f32) (v1276 : FVec F S128x128 .f32) (v1278 : FVec F S128x128 .f32) (v1280 : FVec F S128x128 .f32) (v1281 : FVec F S128x128 .f32) (v1283 : FVec F S128x128 .f32) (v1285 : FVec F S128x128 .f32) (v1439 : FVec F S128x256 .f32) (v1443 : FVec F S128x256 .f32) (v1451 : FVec F S128x256 .f32) (v1455 : FVec F S128x256 .f32) (v1463 : FVec F S128x256 .f32) (v1467 : FVec F S128x256 .f32) (v1475 : FVec F S128x256 .f32) (v1479 : FVec F S128x256 .f32) (v1487 : FVec F S128x256 .f32) (v1491 : FVec F S128x256 .f32) (v1499 : FVec F S128x256 .f32) (v1503 : FVec F S128x256 .f32) (v1577 : FVec F S128x128 .f32) (v1579 : FVec F S128x128 .f32) (v1581 : FVec F S128x128 .f32) (v1583 : FVec F S128x128 .f32) (v1585 : FVec F S128x128 .f32) (v1586 : FVec F S128x128 .f32) (v1588 : FVec F S128x128 .f32) (v1590 : FVec F S128x128 .f32) (v1591 : FVec F S128x128 .f32) (v1593 : FVec F S128x128 .f32) (v1595 : FVec F S128x128 .f32) (v1596 : FVec F S128x128 .f32)
    (X_arg3 : BufTy.Contents (Elt F) arg3.view.ty) (X_arg4 : BufTy.Contents (Elt F) arg4.view.ty) (K V : ℕ → FVec F S128x128 .bf16) (B : ℕ)
    (hK : ∀ k : Fin (k0_t1_loop i).trips, rows arg3 X_arg3 (k0_off2 i k) (k0_off2_inb i k) = K (B - (k.val + 1)))
    (hV : ∀ k : Fin (k0_t1_loop i).trips, rows arg4 X_arg4 (k0_off2 i k) (k0_off2_inb i k) = V (B - (k.val + 1)))
    (hB : (k0_t1_loop i).trips ≤ B) :
    ∀ n, n ≤ (k0_t1_loop i).trips →
    st_k0_t1 (F := F) 𝒱 c bd i arg2 harg2 arg3 harg3 arg4 harg4 arg5 harg5 arg6 harg6 arg1 k0_pay154 k0_pay155 (q 0) (q 1) (q 2) (q 3) (q 4) (q 5) (q 6) (q 7) v1258 v1260 v1261 v1263 v1265 v1266 v1268 v1270 v1271 v1273 v1275 v1276 v1278 v1280 v1281 v1283 v1285 v1439 v1443 v1451 v1455 v1463 v1467 v1475 v1479 v1487 v1491 v1499 v1503 v1577 v1579 v1581 v1583 v1585 v1586 v1588 v1590 v1591 v1593 v1595 v1596 X_arg3 X_arg4 (flat fun a => chain (q a) K V (B + a.val) a.val) n
      = flat fun a => chain (q a) K V (B + a.val) (a.val + n)
  | 0, _ => rfl
  | n + 1, h => by
    have ih := state_eq 𝒱 c bd i arg2 harg2 arg3 harg3 arg4 harg4 arg5 harg5 arg6 harg6 arg1 q v1258 v1260 v1261 v1263 v1265 v1266 v1268 v1270 v1271 v1273 v1275 v1276 v1278 v1280 v1281 v1283 v1285 v1439 v1443 v1451 v1455 v1463 v1467 v1475 v1479 v1487 v1491 v1499 v1503 v1577 v1579 v1581 v1583 v1585 v1586 v1588 v1590 v1591 v1593 v1595 v1596 X_arg3 X_arg4 K V B hK hV hB n (by omega)
    refine (st_k0_t1_succ 𝒱 c bd i arg2 harg2 arg3 harg3 arg4 harg4 arg5 harg5 arg6 harg6 arg1 k0_pay154 k0_pay155 (q 0) (q 1) (q 2) (q 3) (q 4) (q 5) (q 6) (q 7) v1258 v1260 v1261 v1263 v1265 v1266 v1268 v1270 v1271 v1273 v1275 v1276 v1278 v1280 v1281 v1283 v1285 v1439 v1443 v1451 v1455 v1463 v1467 v1475 v1479 v1487 v1491 v1499 v1503 v1577 v1579 v1581 v1583 v1585 v1586 v1588 v1590 v1591 v1593 v1595 v1596 X_arg3 X_arg4 (flat fun a => chain (q a) K V (B + a.val) a.val) ⟨n, h⟩).trans ?_
    dsimp only
    rw [ih, trip_eq, hK, hV]
    refine congrArg flat (funext fun a => ?_)
    rw [← Nat.add_assoc, chain, show B + a.val - (a.val + n + 1) = B - (n + 1) by omega]

theorem state_of (𝒱 : Variants) (c : Dev nD) (bd : Option 𝒱.V) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x256 .f32) (harg6 : arg6.IsWhole) (arg1 : BitVec 32) (q : Fin 8 → Vec F S128x128 .bf16) (v1258 : FVec F S128x128 .f32) (v1260 : FVec F S128x128 .f32) (v1261 : FVec F S128x128 .f32) (v1263 : FVec F S128x128 .f32) (v1265 : FVec F S128x128 .f32) (v1266 : FVec F S128x128 .f32) (v1268 : FVec F S128x128 .f32) (v1270 : FVec F S128x128 .f32) (v1271 : FVec F S128x128 .f32) (v1273 : FVec F S128x128 .f32) (v1275 : FVec F S128x128 .f32) (v1276 : FVec F S128x128 .f32) (v1278 : FVec F S128x128 .f32) (v1280 : FVec F S128x128 .f32) (v1281 : FVec F S128x128 .f32) (v1283 : FVec F S128x128 .f32) (v1285 : FVec F S128x128 .f32) (v1439 : FVec F S128x256 .f32) (v1443 : FVec F S128x256 .f32) (v1451 : FVec F S128x256 .f32) (v1455 : FVec F S128x256 .f32) (v1463 : FVec F S128x256 .f32) (v1467 : FVec F S128x256 .f32) (v1475 : FVec F S128x256 .f32) (v1479 : FVec F S128x256 .f32) (v1487 : FVec F S128x256 .f32) (v1491 : FVec F S128x256 .f32) (v1499 : FVec F S128x256 .f32) (v1503 : FVec F S128x256 .f32) (v1577 : FVec F S128x128 .f32) (v1579 : FVec F S128x128 .f32) (v1581 : FVec F S128x128 .f32) (v1583 : FVec F S128x128 .f32) (v1585 : FVec F S128x128 .f32) (v1586 : FVec F S128x128 .f32) (v1588 : FVec F S128x128 .f32) (v1590 : FVec F S128x128 .f32) (v1591 : FVec F S128x128 .f32) (v1593 : FVec F S128x128 .f32) (v1595 : FVec F S128x128 .f32) (v1596 : FVec F S128x128 .f32)
    (X_arg3 : BufTy.Contents (Elt F) arg3.view.ty) (X_arg4 : BufTy.Contents (Elt F) arg4.view.ty) (K V : ℕ → FVec F S128x128 .bf16) (B : ℕ)
    (hK : ∀ k : Fin (k0_t1_loop i).trips, rows arg3 X_arg3 (k0_off2 i k) (k0_off2_inb i k) = K (B - (k.val + 1)))
    (hV : ∀ k : Fin (k0_t1_loop i).trips, rows arg4 X_arg4 (k0_off2 i k) (k0_off2_inb i k) = V (B - (k.val + 1)))
    (hB : (k0_t1_loop i).trips ≤ B) (init : FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32) (hi : init = flat fun a => chain (q a) K V (B + a.val) a.val) :
    st_k0_t1 (F := F) 𝒱 c bd i arg2 harg2 arg3 harg3 arg4 harg4 arg5 harg5 arg6 harg6 arg1 k0_pay154 k0_pay155 (q 0) (q 1) (q 2) (q 3) (q 4) (q 5) (q 6) (q 7) v1258 v1260 v1261 v1263 v1265 v1266 v1268 v1270 v1271 v1273 v1275 v1276 v1278 v1280 v1281 v1283 v1285 v1439 v1443 v1451 v1455 v1463 v1467 v1475 v1479 v1487 v1491 v1499 v1503 v1577 v1579 v1581 v1583 v1585 v1586 v1588 v1590 v1591 v1593 v1595 v1596 X_arg3 X_arg4 init (k0_t1_loop i).trips
      = flat fun a => chain (q a) K V (B + a.val) (a.val + (k0_t1_loop i).trips) := by
  rw [hi]
  exact state_eq 𝒱 c bd i arg2 harg2 arg3 harg3 arg4 harg4 arg5 harg5 arg6 harg6 arg1 q v1258 v1260 v1261 v1263 v1265 v1266 v1268 v1270 v1271 v1273 v1275 v1276 v1278 v1280 v1281 v1283 v1285 v1439 v1443 v1451 v1455 v1463 v1467 v1475 v1479 v1487 v1491 v1499 v1503 v1577 v1579 v1581 v1583 v1585 v1586 v1588 v1590 v1591 v1593 v1595 v1596 X_arg3 X_arg4 K V B hK hV hB _ (Nat.le_refl _)

/-- The stores of the attention output and of the totals, from the eight carries. -/
def pieces3 (s : Fin 8 → Carry F) : List (View.Piece (Elt F) S1024x128 .f32) :=
  [⟨Rect.unit ![896, 0] ![128, 128] inb_S1024x128_S128x128_896_0, (s 7).acc⟩, ⟨Rect.unit ![768, 0] ![128, 128] inb_S1024x128_S128x128_768_0, (s 6).acc⟩, ⟨Rect.unit ![640, 0] ![128, 128] inb_S1024x128_S128x128_640_0, (s 5).acc⟩, ⟨Rect.unit ![512, 0] ![128, 128] inb_S1024x128_S128x128_512_0, (s 4).acc⟩, ⟨Rect.unit ![384, 0] ![128, 128] inb_S1024x128_S128x128_384_0, (s 3).acc⟩, ⟨Rect.unit ![256, 0] ![128, 128] inb_S1024x128_S128x128_256_0, (s 2).acc⟩, ⟨Rect.unit ![128, 0] ![128, 128] inb_S1024x128_S128x128_128_0, (s 1).acc⟩, ⟨Rect.unit ![0, 0] ![128, 128] inb_S1024x128_S128x128_0_0, (s 0).acc⟩]

/-- The two totals of a query block, one head's beside the other's. -/
def totals (c0 c1 : FVec F S128x128 .f32) : FVec F S128x256 .f32 :=
  concatenate S128x256 1 [⟨S128x128, c0⟩, ⟨S128x128, c1⟩] concatenates_S128x128_S128x128_S128x256_d1

def pieces4 (s : Fin 8 → Carry F) : List (View.Piece (Elt F) S1024x256 .f32) :=
  [⟨Rect.unit ![896, 0] ![128, 256] inb_S1024x256_S128x256_896_0, totals (s 7).c0 (s 7).c1⟩, ⟨Rect.unit ![768, 0] ![128, 256] inb_S1024x256_S128x256_768_0, totals (s 6).c0 (s 6).c1⟩, ⟨Rect.unit ![640, 0] ![128, 256] inb_S1024x256_S128x256_640_0, totals (s 5).c0 (s 5).c1⟩, ⟨Rect.unit ![512, 0] ![128, 256] inb_S1024x256_S128x256_512_0, totals (s 4).c0 (s 4).c1⟩, ⟨Rect.unit ![384, 0] ![128, 256] inb_S1024x256_S128x256_384_0, totals (s 3).c0 (s 3).c1⟩, ⟨Rect.unit ![256, 0] ![128, 256] inb_S1024x256_S128x256_256_0, totals (s 2).c0 (s 2).c1⟩, ⟨Rect.unit ![128, 0] ![128, 256] inb_S1024x256_S128x256_128_0, totals (s 1).c0 (s 1).c1⟩, ⟨Rect.unit ![0, 0] ![128, 256] inb_S1024x256_S128x256_0_0, totals (s 0).c0 (s 0).c1⟩]

theorem tuple_eta (T : FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32) :
    (T.1, T.2.1, T.2.2.1, T.2.2.2.1, T.2.2.2.2.1, T.2.2.2.2.2.1, T.2.2.2.2.2.2.1, T.2.2.2.2.2.2.2.1, T.2.2.2.2.2.2.2.2.1, T.2.2.2.2.2.2.2.2.2.1, T.2.2.2.2.2.2.2.2.2.2.1, T.2.2.2.2.2.2.2.2.2.2.2.1, T.2.2.2.2.2.2.2.2.2.2.2.2.1, T.2.2.2.2.2.2.2.2.2.2.2.2.2.1, T.2.2.2.2.2.2.2.2.2.2.2.2.2.2.1, T.2.2.2.2.2.2.2.2.2.2.2.2.2.2.2.1, T.2.2.2.2.2.2.2.2.2.2.2.2.2.2.2.2.1, T.2.2.2.2.2.2.2.2.2.2.2.2.2.2.2.2.2.1, T.2.2.2.2.2.2.2.2.2.2.2.2.2.2.2.2.2.2.1, T.2.2.2.2.2.2.2.2.2.2.2.2.2.2.2.2.2.2.2.1, T.2.2.2.2.2.2.2.2.2.2.2.2.2.2.2.2.2.2.2.2.1, T.2.2.2.2.2.2.2.2.2.2.2.2.2.2.2.2.2.2.2.2.2.1, T.2.2.2.2.2.2.2.2.2.2.2.2.2.2.2.2.2.2.2.2.2.2.1, T.2.2.2.2.2.2.2.2.2.2.2.2.2.2.2.2.2.2.2.2.2.2.2) = T := rfl

/-- A carried tuple read as eight carries. -/
def unflat (T : FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32 × FVec F S128x128 .f32) : Fin 8 → Carry F :=
  ![⟨T.1, T.2.1, T.2.2.1⟩, ⟨T.2.2.2.1, T.2.2.2.2.1, T.2.2.2.2.2.1⟩, ⟨T.2.2.2.2.2.2.1, T.2.2.2.2.2.2.2.1, T.2.2.2.2.2.2.2.2.1⟩, ⟨T.2.2.2.2.2.2.2.2.2.1, T.2.2.2.2.2.2.2.2.2.2.1, T.2.2.2.2.2.2.2.2.2.2.2.1⟩, ⟨T.2.2.2.2.2.2.2.2.2.2.2.2.1, T.2.2.2.2.2.2.2.2.2.2.2.2.2.1, T.2.2.2.2.2.2.2.2.2.2.2.2.2.2.1⟩, ⟨T.2.2.2.2.2.2.2.2.2.2.2.2.2.2.2.1, T.2.2.2.2.2.2.2.2.2.2.2.2.2.2.2.2.1, T.2.2.2.2.2.2.2.2.2.2.2.2.2.2.2.2.2.1⟩, ⟨T.2.2.2.2.2.2.2.2.2.2.2.2.2.2.2.2.2.2.1, T.2.2.2.2.2.2.2.2.2.2.2.2.2.2.2.2.2.2.2.1, T.2.2.2.2.2.2.2.2.2.2.2.2.2.2.2.2.2.2.2.2.1⟩, ⟨T.2.2.2.2.2.2.2.2.2.2.2.2.2.2.2.2.2.2.2.2.2.1, T.2.2.2.2.2.2.2.2.2.2.2.2.2.2.2.2.2.2.2.2.2.2.1, T.2.2.2.2.2.2.2.2.2.2.2.2.2.2.2.2.2.2.2.2.2.2.2⟩]

theorem unflat_flat (s : Fin 8 → Carry F) : unflat (flat s) = s := by
  funext a
  fin_cases a <;> rfl

/-- Row `128 a + y` of a block of queries. -/
def qb (x : Vec F S1024x128 .bf16) (a : Fin 8) : FVec F S128x128 .bf16 :=
  fun y => x (ix2 ⟨128 * a.val + (y 0).val, by have : (y 0).val < 128 := (y 0).isLt; omega⟩ (y 1))

/-- Row `128 n + y` of the keys or values. -/
def kb (x : Vec F S2048x128 .bf16) (n : ℕ) : FVec F S128x128 .bf16 :=
  fun y => x (ix2 ⟨(128 * n + (y 0).val) % 2048, Nat.mod_lt _ (by decide)⟩ (y 1))

theorem inb_q : ∀ (a : Fin 8) (b : Fin 2), (![128 * a.val, 0] : Fin 2 → Nat) b + S128x128.size b ≤ S1024x128.size b := by decide

theorem rows_eq (arg : Memref sig .tc .vmem S2048x128 .bf16) (harg : arg.IsWhole) (x : Vec F S2048x128 .bf16) (n : ℕ) (hn : n < 16)
    (off : Fin 2 → Nat) (h : ∀ a, off a + S128x128.size a ≤ S2048x128.size a) (ho : off = ![128 * n, 0]) :
    rows arg (harg.unread x) off h = kb x n := by
  subst ho
  funext y
  refine (Memref.IsWhole.readAt_unread harg x (Rect.unit (s := S2048x128) ![128 * n, 0] S128x128.size h).toLoadRect y).trans (congrArg x ?_)
  have hy : (y 0).val < 128 := (y 0).isLt
  refine (eq_ix2 _).trans (congrArg₂ ix2 (Fin.ext ?_) (Fin.ext ?_))
  · show 128 * n + 1 * (y 0).val = (128 * n + (y 0).val) % 2048
    omega
  · show 0 + 1 * (y 1).val = (y 1).val
    omega

/-- A block of 128 queries, as the body loads it. -/
abbrev qload (arg2 : Memref sig .tc .vmem S1024x128 .bf16) (harg2 : arg2.IsWhole) (x : Vec F S1024x128 .bf16) (a : Fin 8) : FVec F S128x128 .bf16 :=
  View.readAt (Elt F) arg2.view (Rect.unit (s := S1024x128) ![128 * a.val, 0] S128x128.size (inb_q a)).toLoadRect (harg2.unread x)

theorem qload_eq (arg2 : Memref sig .tc .vmem S1024x128 .bf16) (harg2 : arg2.IsWhole) (x : Vec F S1024x128 .bf16) (a : Fin 8) :
    qload arg2 harg2 x a = qb x a := by
  funext y
  refine (Memref.IsWhole.readAt_unread harg2 x (Rect.unit (s := S1024x128) ![128 * a.val, 0] S128x128.size (inb_q a)).toLoadRect y).trans (congrArg x ?_)
  refine (eq_ix2 _).trans (congrArg₂ ix2 (Fin.ext ?_) (Fin.ext ?_))
  · show 128 * a.val + 1 * (y 0).val = 128 * a.val + (y 0).val
    omega
  · show 0 + 1 * (y 1).val = (y 1).val
    omega

theorem off1_eq : ∀ (i : grid0.Coords) (j : Fin 8), k0_off1 i (BitVec.ofNat 32 j.val) = ![128 * (8 * (i 1).val + j.val), 0] := by decide +kernel

theorem off2_eq : ∀ (i : grid0.Coords) (k : Fin (k0_t1_loop i).trips), k0_off2 i k = ![128 * (8 * (i 1).val - (k.val + 1)), 0] := by decide +kernel

theorem trips_eq : ∀ i : grid0.Coords, (k0_t1_loop i).trips = 8 * (i 1).val := by decide +kernel

/-- The carries at the end of the body. -/
def final (i : grid0.Coords) (x0 : Vec F S1024x128 .bf16) (x1 x2 : Vec F S2048x128 .bf16) (a : Fin 8) : Carry F :=
  chain (qb x0 a) (kb x1) (kb x2) (8 * (i 1).val + a.val) (a.val + 8 * (i 1).val)

set_option maxHeartbeats 4000000 in
theorem run_tuple (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x256 .f32) (harg6 : arg6.IsWhole)
    (x0 : Vec F S1024x128 .bf16) (x1 : Vec F S2048x128 .bf16) (x2 : Vec F S2048x128 .bf16) :
    ∃ T, (kernelRun0_A c i arg2 harg2 arg3 harg3 arg4 harg4 arg5 harg5 arg6 harg6 x0 x1 x2).1 = pieces3 (unflat T) ∧ (kernelRun0_A c i arg2 harg2 arg3 harg3 arg4 harg4 arg5 harg5 arg6 harg6 x0 x1 x2).2.1 = pieces4 (unflat T) ∧ T = flat (final i x0 x1 x2) := by
  refine ⟨st_k0_t2 Variants.none c none i arg2 harg2 arg3 harg3 arg4 harg4 arg5 harg5 arg6 harg6 ?v0 ?v1 ?v2 ?v3 ?v4 ?v5 ?v6 ?v7 ?v8 ?v9 ?v10 ?v11 ?v12 ?v13 ?v14 ?v15 ?v16 ?v17 ?v18 ?v19 ?v20 ?v21 ?v22 ?v23 ?v24 ?v25 ?v26 ?v27 ?v28 ?v29 ?v30 ?v31 ?v32 ?v33 ?v34 ?v35 ?v36 ?v37 ?v38 ?v39 ?v40 ?v41 ?v42 ?v43 ?v44 ?v45 ?v46 ?v47 ?v48 ?v49 ?v50 ?v51 ?v52 ?v53 ?v54 ?v55 (k0_t2_loop i).trips, ?_, ?_, ?_⟩
  case refine_1 =>
    unfold kernelRun0_A
    exact rfl
  case refine_2 => sl_kernel_rfl
  case refine_3 =>
    rw [show (k0_t2_loop i).trips = 0 from Nat.le_zero.1 (k0_t2_abs i).2.1]
    refine (st_k0_t2_zero ..).trans ?_
    have hi1 : (i 1).val < 2 := (i 1).isLt
    have e1 (j : ℕ) (hj : j < 8) (arg : Memref sig .tc .vmem S2048x128 .bf16) (harg : arg.IsWhole) (x : Vec F S2048x128 .bf16) :
        rows arg (harg.unread x) (k0_off1 i (BitVec.ofNat 32 (j % 8))) (k0_off1_inb i ⟨j % 8, Nat.mod_lt _ (by decide)⟩) = kb x (8 * (i 1).val + j) :=
      rows_eq arg harg x _ (by omega) _ _ ((off1_eq i ⟨j % 8, Nat.mod_lt _ (by decide)⟩).trans (by simp only [Nat.mod_eq_of_lt hj]))
    have e2 (k : Fin (k0_t1_loop i).trips) (arg : Memref sig .tc .vmem S2048x128 .bf16) (harg : arg.IsWhole) (x : Vec F S2048x128 .bf16) :
        rows arg (harg.unread x) (k0_off2 i k) (k0_off2_inb i k) = kb x (8 * (i 1).val - (k.val + 1)) :=
      rows_eq arg harg x _ (by omega) _ _ (off2_eq i k)
    refine (tuple_eta (st_k0_t1 Variants.none c none i arg2 harg2 arg3 harg3 arg4 harg4 arg5 harg5 arg6 harg6 (BitVec.ofNat 32 (i 1).val) k0_pay154 k0_pay155 (qload arg2 harg2 x0 0) (qload arg2 harg2 x0 1) (qload arg2 harg2 x0 2) (qload arg2 harg2 x0 3) (qload arg2 harg2 x0 4) (qload arg2 harg2 x0 5) (qload arg2 harg2 x0 6) (qload arg2 harg2 x0 7) ?w0 ?w1 ?w2 ?w3 ?w4 ?w5 ?w6 ?w7 ?w8 ?w9 ?w10 ?w11 ?w12 ?w13 ?w14 ?w15 ?w16 ?w17 ?w18 ?w19 ?w20 ?w21 ?w22 ?w23 ?w24 ?w25 ?w26 ?w27 ?w28 ?w29 ?w30 ?w31 ?w32 ?w33 ?w34 ?w35 ?w36 ?w37 ?w38 ?w39 ?w40 (harg3.unread x1) (harg4.unread x2) ?winit (k0_t1_loop i).trips)).trans ?_
    refine (state_of Variants.none c none i arg2 harg2 arg3 harg3 arg4 harg4 arg5 harg5 arg6 harg6 (BitVec.ofNat 32 (i 1).val) (qload arg2 harg2 x0) _ _ _ _ _ _ _ _ _ _ _ _ _ _ _ _ _ _ _ _ _ _ _ _ _ _ _ _ _ _ _ _ _ _ _ _ _ _ _ _ _
      (harg3.unread x1) (harg4.unread x2) (kb x1) (kb x2) (8 * (i 1).val) (fun k => e2 k arg3 harg3 x1) (fun k => e2 k arg4 harg4 x2) (by rw [trips_eq]) _ ?_).trans ?_
    · refine Eq.trans (b := flat fun a => chain (qload arg2 harg2 x0 a)
        (fun j => rows arg3 (harg3.unread x1) (k0_off1 i (BitVec.ofNat 32 (j % 8))) (k0_off1_inb i ⟨j % 8, Nat.mod_lt _ (by decide)⟩))
        (fun j => rows arg4 (harg4.unread x2) (k0_off1 i (BitVec.ofNat 32 (j % 8))) (k0_off1_inb i ⟨j % 8, Nat.mod_lt _ (by decide)⟩)) a.val a.val) ?_ ?_
      · sl_kernel_rfl
      · exact congrArg flat (funext fun a => chain_congr _ _ _ _ _ _ a.val a.isLt (fun j hj => e1 j hj arg3 harg3 x1) (fun j hj => e1 j hj arg4 harg4 x2) _ (Nat.le_refl _))
    · simp only [qload_eq, trips_eq]
      rfl

end Cert.Kernel22Ideal.Steps

end
-- ==== Proof.Stick22.lean ====
module

public import proofs.«01_k».proof.Proof.Chain22
public import Idealize.ShloMosaic.Lib.Pipeline.ValueKit

@[expose] public section

set_option maxRecDepth 16384

noncomputable section

/-! One step of `Kernel22Ideal`'s attention over the extended reals, entry by entry, and its sums in the reals. -/

namespace Cert.Kernel22Ideal.Steps

open Idealize.ShloMosaic Idealize.ShloMosaic.TcCoe Idealize.SL.Sem
open Cert.Kernel22Ideal Cert.Kernel22Ideal.Gen

/-- Column `j` of head `h` of the pair, in a row of 256 scores. -/
def half (h : Fin 2) (j : Fin 128) : Fin 256 := ⟨128 * h.val + j.val, by omega⟩

/-- Lane `d` of head `h` of the pair. -/
def lane (h : Fin 2) (d : Fin 64) : Fin 128 := ⟨64 * h.val + d.val, by omega⟩

theorem select_lane (x : ℕ) (hx : x < 128) (a b : EReal) :
    Scalar.select (IntOp.cmpi CmpIPredicate.slt (BitVec.ofNat 32 x) 64#32) a b = if x < 64 then a else b := by
  have h : ∀ x : Fin 128, IntOp.cmpi CmpIPredicate.slt (BitVec.ofNat 32 x.val) 64#32 = if x.val < 64 then 1#1 else 0#1 := by decide +kernel
  have hx' := h ⟨x, hx⟩
  dsimp only at hx'
  rw [hx']
  split <;> rfl

/-- The score of one query against one key in one head. -/
def dotH (q k : FVec Ideal S128x128 .bf16) (h : Fin 2) (r j : Fin 128) : EReal :=
  ∑ d : Fin 64, q (ix2 r (lane h d)) * k (ix2 j (lane h d))

theorem score_half (q k : FVec Ideal S128x128 .bf16) (h : Fin 2) (r j : Fin 128) :
    score q k (ix2 r (half h j)) = dotH q k h r j := by
  pointwise [score, stack, k0_pay154, dotH]
  rw [Fin.sum_univ_two_halves (a := 64) (b := 64) rfl]
  have hlow : ∀ x : Fin 64, x.val < 64 := fun x => x.isLt
  have hhigh : ∀ x : Fin 64, ¬ 64 + x.val < 64 := fun x => by omega
  simp only [select_lane _ (lt_trans (hlow _) (by decide)), select_lane _ (show 64 + _ < 128 from Nat.add_lt_add_left (hlow _) 64), hlow, hhigh, if_true, if_false]
  fin_cases h
  · have e : (half 0 j).val = j.val := by simp [half]
    have e' : (half 0 j).val < 128 := by omega
    simp [e, lane]
  · have e : (half 1 j).val = 128 + j.val := by simp [half]
    simp [e, lane]

/-- `log (1 + exp z)` as both programs write it. -/
def sp (z : ℝ) : ℝ := max z 0 + Real.log (1 + Real.exp (-|z|))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := EReal.coe_strictMono.monotone.map_max

theorem coe_abs (x : ℝ) : FloatOps.absf (F := Ideal) (φ := .f32) (x : EReal) = ((|x| : ℝ) : EReal) := by
  show max (x : EReal) (-(x : EReal)) = _
  rw [← EReal.coe_neg, ← coe_max]; rfl

theorem log1p_coe (x : ℝ) : Ideal.log (1 + Ideal.exp (-((|x| : ℝ) : EReal))) = ((Real.log (1 + Real.exp (-|x|)) : ℝ) : EReal) := by
  rw [← EReal.coe_neg, Ideal.exp_coe, ← EReal.coe_one, ← EReal.coe_add, Ideal.log_coe, if_neg (by have := Real.exp_pos (-|x|); linarith)]

theorem softplus_coe (z : FVec Ideal S128x256 .f32) (y) (x : ℝ) (hz : z y = (x : EReal)) : softplus z y = (sp x : EReal) := by
  pointwise [softplus]
  rw [hz, coe_abs, zero_sub, log1p_coe, ← EReal.coe_zero, ← coe_max, ← EReal.coe_add]; rfl

theorem later_coe (x : Fin 128) (c : ℕ) (hc : c < 128) :
    FloatOps.sitofp (F := Ideal) FTy.f32 (BitVec.setWidth 32 (IntOp.cmpi CmpIPredicate.sgt (BitVec.ofNat 32 x.val) (BitVec.ofNat 32 c))) = ((if c < x.val then 1 else 0 : ℝ) : EReal) := by
  have h : ∀ x c : Fin 128, (BitVec.setWidth 32 (IntOp.cmpi CmpIPredicate.sgt (BitVec.ofNat 32 x.val) (BitVec.ofNat 32 c.val))).toInt = if c.val < x.val then 1 else 0 := by decide +kernel
  have hx' := h x ⟨c, hc⟩
  show (((BitVec.setWidth 32 _).toInt : ℝ) : EReal) = _
  rw [hx']
  split <;> simp_all

theorem sub_self_coe (x : ℝ) : (x : EReal) - (x : EReal) = 0 := by rw [← EReal.coe_sub, sub_self, EReal.coe_zero]

theorem cum0_half (l : FVec Ideal S128x256 .f32) (L : Fin 128 → Fin 128 → ℝ) (hl : ∀ r j, l (ix2 r (half 0 j)) = (L r j : EReal)) (r c : Fin 128) :
    cum0 l (ix2 r (half 0 c)) = ((∑ j, if c < j then L r j else 0 : ℝ) : EReal) ∧ cum0 l (ix2 r (half 1 c)) = ((∑ j, L r j : ℝ) : EReal) := by
  have hl' : ∀ (x : Fin 128) (p : x.val < 256), l (ix2 r ⟨x.val, p⟩) = (L r x : EReal) := fun x p => by
    rw [← hl r x]; congr 2; exact Fin.ext (by simp [half])
  have e0 : (half 0 c).val = c.val := by simp [half]
  have e1 : (half 1 c).val = 128 + c.val := by simp [half]
  constructor
  · pointwise [cum0, hi, lo, k0_pay155]
    simp only [hl', sub_self_coe, zero_mul, Finset.sum_const_zero, add_zero, e0, c.isLt, dite_true, later_coe _ _ c.isLt]
    rw [coe_sum]
    refine Finset.sum_congr rfl fun x _ => ?_
    rw [← EReal.coe_mul, mul_ite, mul_one, mul_zero]; rfl
  · pointwise [cum0, hi, lo, k0_pay155]
    have e : ¬ 128 + c.val < 128 := by omega
    simp only [hl', sub_self_coe, zero_mul, Finset.sum_const_zero, add_zero, e1, e, dite_false, mul_one]
    rw [coe_sum]

theorem cum1_half (l : FVec Ideal S128x256 .f32) (L : Fin 128 → Fin 128 → ℝ) (hl : ∀ r j, l (ix2 r (half 1 j)) = (L r j : EReal)) (r c : Fin 128) :
    cum1 l (ix2 r (half 0 c)) = ((∑ j, if c < j then L r j else 0 : ℝ) : EReal) ∧ cum1 l (ix2 r (half 1 c)) = ((∑ j, L r j : ℝ) : EReal) := by
  have hl' : ∀ (x : Fin 128) (p : 128 + x.val < 256), l (ix2 r ⟨128 + x.val, p⟩) = (L r x : EReal) := fun x p => by
    rw [← hl r x]; congr 2
  have e0 : (half 0 c).val = c.val := by simp [half]
  have e1 : (half 1 c).val = 128 + c.val := by simp [half]
  constructor
  · pointwise [cum1, hi, lo, k0_pay155]
    simp only [hl', sub_self_coe, zero_mul, Finset.sum_const_zero, add_zero, e0, c.isLt, dite_true, later_coe _ _ c.isLt]
    rw [coe_sum]
    refine Finset.sum_congr rfl fun x _ => ?_
    rw [← EReal.coe_mul, mul_ite, mul_one, mul_zero]; rfl
  · pointwise [cum1, hi, lo, k0_pay155]
    have e : ¬ 128 + c.val < 128 := by omega
    simp only [hl', sub_self_coe, zero_mul, Finset.sum_const_zero, add_zero, e1, e, dite_false, mul_one]
    rw [coe_sum]

theorem att_half0 (z l : FVec Ideal S128x256 .f32) (c0 c1 : FVec Ideal S128x128 .f32) (r j : Fin 128) :
    att z l c0 c1 (ix2 r (half 0 j)) = Ideal.exp (z (ix2 r (half 0 j)) - softplus z (ix2 r (half 0 j)) + (cum0 l (ix2 r (half 0 j)) + c0 (ix2 r j))) := by
  have e0 : (half 0 j).val = j.val := by simp [half]
  pointwise [att]
  simp only [e0, j.isLt, dite_true]

theorem att_half1 (z l : FVec Ideal S128x256 .f32) (c0 c1 : FVec Ideal S128x128 .f32) (r j : Fin 128) :
    att z l c0 c1 (ix2 r (half 1 j)) = Ideal.exp (z (ix2 r (half 1 j)) - softplus z (ix2 r (half 1 j)) + (cum1 l (ix2 r (half 0 j)) + c1 (ix2 r j))) := by
  have e1 : (half 1 j).val = 128 + j.val := by simp [half]
  have e : ¬ 128 + j.val < 128 := by omega
  have eh : ∀ p, (⟨j.val, p⟩ : Fin 256) = half 0 j := fun p => Fin.ext (by simp [half])
  pointwise [att]
  simp only [e1, e, dite_false, Nat.add_sub_cancel_left, eh]

theorem weigh_half (a : FVec Ideal S128x256 .f32) (v : FVec Ideal S128x128 .bf16) (h : Fin 2) (r : Fin 128) (d : Fin 64) :
    weigh a v (ix2 r (lane h d)) = ∑ j : Fin 128, a (ix2 r (half h j)) * v (ix2 j (lane h d)) := by
  pointwise [weigh, stack, k0_pay154]
  simp only [select_lane _ (lane h d).isLt]
  fin_cases h
  · have e : (lane 0 d).val < 64 := by simp [lane]
    simp [e, half]
  · have e : ¬ (lane 1 d).val < 64 := by simp [lane]
    simp [e, half]

theorem mask_half (h : Fin 2) (r j : Fin 128) : k0_pay156 (ix2 r (half h j)) = if j.val < r.val then 1#1 else 0#1 := by
  have hb : ∀ r j : Fin 128, IntOp.cmpi CmpIPredicate.slt (BitVec.ofNat 32 j.val - BitVec.ofNat 32 r.val) 0#32 = if j.val < r.val then 1#1 else 0#1 := by decide +kernel
  rw [← hb r j]
  pointwise [k0_pay156]
  fin_cases h
  · have e0 : (half 0 j).val = j.val := by simp [half]
    simp only [Fin.zero_eta, e0, j.isLt, dite_true]; rfl
  · have e1 : (half 1 j).val = 128 + j.val := by simp [half]
    have e : ¬ 128 + j.val < 128 := by omega
    simp only [Fin.mk_one, e1, e, dite_false, Nat.add_sub_cancel_left]; rfl

theorem lnb_coe (z : FVec Ideal S128x256 .f32) (y) (x : ℝ) (hz : z y = (x : EReal)) : lnb z y = ((-sp x : ℝ) : EReal) := by
  pointwise [lnb]
  rw [softplus_coe z y x hz, zero_sub, EReal.coe_neg]

theorem lnbD_half (z : FVec Ideal S128x256 .f32) (h : Fin 2) (r j : Fin 128) (x : ℝ) (hz : z (ix2 r (half h j)) = (x : EReal)) :
    lnbD z (ix2 r (half h j)) = ((if j.val < r.val then -sp x else 0 : ℝ) : EReal) := by
  have e : lnbD z (ix2 r (half h j)) = Scalar.select (k0_pay156 (ix2 r (half h j))) (lnb z (ix2 r (half h j))) 0 := by
    pointwise [lnbD]
  rw [e, mask_half, lnb_coe z _ x hz]
  split
  · rfl
  · rfl

/-! Sums over the keys of one query `t`, with real scores `z`. -/

/-- The log-survival of key `j`, none for keys that are not before the query. -/
def lm (z : ℕ → ℝ) (t j : ℕ) : ℝ := if j < t then -sp (z j) else 0

/-- The log-survivals from key `n` on. -/
def tot (z : ℕ → ℝ) (t n : ℕ) : ℝ := ∑ j ∈ Finset.Ico n 2048, lm z t j

/-- The weight of key `j`. -/
def wt (z : ℕ → ℝ) (t j : ℕ) : ℝ := if j < t then Real.exp (z j - sp (z j) + tot z t (j + 1)) else 0

theorem sum_block {M : Type} [AddCommMonoid M] (f : ℕ → M) (m : ℕ) (hm : m + 128 ≤ 2048) :
    ∑ j ∈ Finset.Ico m 2048, f j = ∑ j ∈ Finset.Ico (m + 128) 2048, f j + ∑ j : Fin 128, f (m + j.val) := by
  rw [← Finset.sum_Ico_consecutive f (Nat.le_add_right m 128) hm, add_comm]
  congr 1
  rw [Finset.sum_Ico_eq_sum_range, Nat.add_sub_cancel_left, Fin.sum_univ_eq_sum_range (fun j => f (m + j)) 128]

theorem sum_later (f : ℕ → ℝ) (m c : ℕ) (hc : c < 128) (hm : m + 128 ≤ 2048) :
    ∑ j ∈ Finset.Ico (m + c + 1) 2048, f j = (∑ j : Fin 128, if c < j.val then f (m + j.val) else 0) + ∑ j ∈ Finset.Ico (m + 128) 2048, f j := by
  rw [← Finset.sum_Ico_consecutive f (show m + c + 1 ≤ m + 128 by omega) hm]
  congr 1
  rw [Fin.sum_univ_eq_sum_range (fun j => if c < j then f (m + j) else 0) 128, Finset.range_eq_Ico]
  rw [← Finset.sum_filter, show m + c + 1 = c + 1 + m by omega, add_comm m 128, ← Finset.sum_Ico_add f (c + 1) 128 m]
  refine Finset.sum_congr (Finset.ext fun j => ?_) fun _ _ => rfl
  simp only [Finset.mem_Ico, Finset.mem_filter]; omega

/-- What a carry holds once the keys from `n` on have been taken, for the queries from `t0` on. -/
structure Holds (z : Fin 2 → Fin 128 → ℕ → ℝ) (t0 : ℕ) (v : ℕ → Fin 128 → EReal) (n : ℕ) (s : Carry Ideal) : Prop where
  acc : ∀ r h d, s.acc (ix2 r (lane h d)) = ∑ j ∈ Finset.Ico n 2048, (wt (z h r) (t0 + r.val) j : EReal) * v j (lane h d)
  c0 : ∀ r c, s.c0 (ix2 r c) = (tot (z 0 r) (t0 + r.val) n : EReal)
  c1 : ∀ r c, s.c1 (ix2 r c) = (tot (z 1 r) (t0 + r.val) n : EReal)

theorem holds_core (z : Fin 2 → Fin 128 → ℕ → ℝ) (t0 : ℕ) (v : ℕ → Fin 128 → EReal) (m : ℕ) (hm : m + 128 ≤ 2048) (s : Carry Ideal)
    (hs : Holds z t0 v (m + 128) s) (l a : FVec Ideal S128x256 .f32) (vb : FVec Ideal S128x128 .bf16)
    (hl : ∀ h r j, l (ix2 r (half h j)) = (lm (z h r) (t0 + r.val) (m + j.val) : EReal))
    (ha : ∀ h r j, a (ix2 r (half h j)) = (wt (z h r) (t0 + r.val) (m + j.val) : EReal))
    (hv : ∀ j c, vb (ix2 j c) = v (m + j.val) c) :
    Holds z t0 v m ⟨addf s.acc (weigh a vb), addf s.c0 (extractStridedSlice S128x128 ![0, 128] (cum0 l) slices_S128x256_o0_128_S128x128),
      addf s.c1 (extractStridedSlice S128x128 ![0, 128] (cum1 l) slices_S128x256_o0_128_S128x128)⟩ := by
  have cut : ∀ (x : FVec Ideal S128x256 .f32) (r c : Fin 128), extractStridedSlice S128x128 ![0, 128] x slices_S128x256_o0_128_S128x128 (ix2 r c) = x (ix2 r (half 1 c)) := by
    intro x r c
    pointwise
    rfl
  refine ⟨fun r h d => ?_, fun r c => ?_, fun r c => ?_⟩
  · show s.acc _ + weigh a vb _ = _
    rw [hs.acc, weigh_half, sum_block _ m hm]
    simp only [ha, hv]
  · show s.c0 _ + extractStridedSlice S128x128 ![0, 128] (cum0 l) slices_S128x256_o0_128_S128x128 _ = _
    rw [hs.c0, cut, (cum0_half l _ (hl 0) r c).2, ← EReal.coe_add, tot, tot, sum_block _ m hm]
  · show s.c1 _ + extractStridedSlice S128x128 ![0, 128] (cum1 l) slices_S128x256_o0_128_S128x128 _ = _
    rw [hs.c1, cut, (cum1_half l _ (hl 1) r c).2, ← EReal.coe_add, tot, tot, sum_block _ m hm]

theorem att_coe (z : Fin 2 → Fin 128 → ℕ → ℝ) (t0 : ℕ) (v : ℕ → Fin 128 → EReal) (m : ℕ) (hm : m + 128 ≤ 2048) (s : Carry Ideal)
    (hs : Holds z t0 v (m + 128) s) (x l : FVec Ideal S128x256 .f32)
    (hx : ∀ h r j, x (ix2 r (half h j)) = (z h r (m + j.val) : EReal))
    (hl : ∀ h r j, l (ix2 r (half h j)) = (lm (z h r) (t0 + r.val) (m + j.val) : EReal)) (h : Fin 2) (r j : Fin 128) :
    att x l s.c0 s.c1 (ix2 r (half h j)) = (Real.exp (z h r (m + j.val) - sp (z h r (m + j.val)) + tot (z h r) (t0 + r.val) (m + j.val + 1)) : EReal) := by
  fin_cases h
  · dsimp only [Fin.zero_eta]
    rw [att_half0, softplus_coe _ _ _ (hx 0 r j), hx, (cum0_half l _ (hl 0) r j).1, hs.c0, ← EReal.coe_sub, ← EReal.coe_add, ← EReal.coe_add, Ideal.exp_coe,
      tot, tot, sum_later _ m j.val j.isLt hm]
    rfl
  · dsimp only [Fin.mk_one]
    rw [att_half1, softplus_coe _ _ _ (hx 1 r j), hx, (cum1_half l _ (hl 1) r j).1, hs.c1, ← EReal.coe_sub, ← EReal.coe_add, ← EReal.coe_add, Ideal.exp_coe,
      tot, tot, sum_later _ m j.val j.isLt hm]
    rfl

theorem holds_stepN (z : Fin 2 → Fin 128 → ℕ → ℝ) (t0 : ℕ) (v : ℕ → Fin 128 → EReal) (m : ℕ) (ht : m + 128 ≤ t0) (hm : m + 128 ≤ 2048) (s : Carry Ideal)
    (hs : Holds z t0 v (m + 128) s) (q k vb : FVec Ideal S128x128 .bf16)
    (hz : ∀ h r j, dotH q k h r j = (z h r (m + j.val) : EReal)) (hv : ∀ j c, vb (ix2 j c) = v (m + j.val) c) :
    Holds z t0 v m (stepN q k vb s) := by
  have hx : ∀ h r j, score q k (ix2 r (half h j)) = (z h r (m + j.val) : EReal) := fun h r j => (score_half q k h r j).trans (hz h r j)
  have hlt : ∀ r j : Fin 128, m + j.val < t0 + r.val := fun r j => by omega
  have hl : ∀ h r j, lnb (score q k) (ix2 r (half h j)) = (lm (z h r) (t0 + r.val) (m + j.val) : EReal) := fun h r j => by
    rw [lnb_coe _ _ _ (hx h r j), lm, if_pos (hlt r j)]
  refine holds_core z t0 v m hm s hs _ _ vb hl (fun h r j => ?_) hv
  rw [att_coe z t0 v m hm s hs _ _ hx hl, wt, if_pos (hlt r j)]

theorem holds_stepD (z : Fin 2 → Fin 128 → ℕ → ℝ) (v : ℕ → Fin 128 → EReal) (m : ℕ) (hm : m + 128 ≤ 2048) (s : Carry Ideal)
    (hs : Holds z m v (m + 128) s) (q k vb : FVec Ideal S128x128 .bf16)
    (hz : ∀ h r j, dotH q k h r j = (z h r (m + j.val) : EReal)) (hv : ∀ j c, vb (ix2 j c) = v (m + j.val) c) :
    Holds z m v m (stepD q k vb s) := by
  have hx : ∀ h r j, score q k (ix2 r (half h j)) = (z h r (m + j.val) : EReal) := fun h r j => (score_half q k h r j).trans (hz h r j)
  have hl : ∀ h r j, lnbD (score q k) (ix2 r (half h j)) = (lm (z h r) (m + r.val) (m + j.val) : EReal) := fun h r j => by
    rw [lnbD_half _ _ _ _ _ (hx h r j), lm]; simp only [Nat.add_lt_add_iff_left]
  refine holds_core z m v m hm s hs _ _ vb hl (fun h r j => ?_) hv
  have e : ∀ x : FVec Ideal S128x256 .f32, select k0_pay156 x (broadcast S128x256 (Scalar.ofBits (F := Ideal) .f32 0x00000000#32)) (ix2 r (half h j))
      = Scalar.select (k0_pay156 (ix2 r (half h j))) (x (ix2 r (half h j))) (0 : EReal) := fun x => by pointwise
  rw [e, mask_half, att_coe z m v m hm s hs _ _ hx hl, wt]
  simp only [Nat.add_lt_add_iff_left]
  split <;> rfl

theorem holds_zero (z : Fin 2 → Fin 128 → ℕ → ℝ) (v : ℕ → Fin 128 → EReal) (m : ℕ) : Holds z m v (m + 128) zero := by
  have ht : ∀ (h : Fin 2) (r : Fin 128), tot (z h r) (m + r.val) (m + 128) = 0 := fun h r =>
    Finset.sum_eq_zero fun j hj => if_neg (by have := (Finset.mem_Ico.1 hj).1; omega)
  have h0 : ∀ y, (k0_pay157 : FVec Ideal S128x128 .f32) y = (0 : EReal) := fun y => by pointwise [k0_pay157]
  refine ⟨fun r h d => ?_, fun r c => ?_, fun r c => ?_⟩
  · refine Eq.trans (b := (0 : EReal)) (h0 (ix2 r (lane h d))) (Finset.sum_eq_zero fun j hj => ?_).symm
    rw [wt, if_neg (by have := (Finset.mem_Ico.1 hj).1; omega), EReal.coe_zero, zero_mul]
  · rw [ht]; exact h0 (ix2 r c)
  · rw [ht]; exact h0 (ix2 r c)

/-- The chain of steps of query block `B`. -/
theorem holds_chain (z : Fin 2 → Fin 128 → ℕ → ℝ) (v : ℕ → Fin 128 → EReal) (B : ℕ) (hB : B < 16) (q : FVec Ideal S128x128 .bf16) (K V : ℕ → FVec Ideal S128x128 .bf16)
    (hz : ∀ b, b < 16 → ∀ h r j, dotH q (K b) h r j = (z h r (128 * b + j.val) : EReal)) (hv : ∀ b, b < 16 → ∀ j c, V b (ix2 j c) = v (128 * b + j.val) c) :
    ∀ n, n ≤ B → Holds z (128 * B) v (128 * (B - n)) (chain q K V B n)
  | 0, _ => holds_stepD z v (128 * B) (by omega) zero (holds_zero z v _) q _ _ (hz B hB) (hv B hB)
  | n + 1, h => by
    refine holds_stepN z (128 * B) v (128 * (B - (n + 1))) (by omega) (by omega) _ ?_ q _ _ (hz _ (by omega)) (hv _ (by omega))
    rw [show 128 * (B - (n + 1)) + 128 = 128 * (B - n) by omega]
    exact holds_chain z v B hB q K V hz hv n (by omega)

end Cert.Kernel22Ideal.Steps

end
-- ==== Proof.Ref22.lean ====
module

public import proofs.«01_k».proof.Proof.Stick22
public import proofs.«01_k».proof.Proof.Gen.Reference22Ideal.Run

@[expose] public section

set_option maxRecDepth 16384

noncomputable section

/-! The reference of the attention, entry by entry: the same sums over the keys of each query as the kernel's steps. -/

namespace Cert.Reference22Ideal.Stick

open Idealize.ShloMosaic Idealize.SL.Sem
open Cert.Reference22Ideal Cert.Reference22Ideal.Gen

variable {F : FTy → Type} [FloatOps F]

def heads (off : Fin 2 → Nat) (h : S2048x1536.Slices off S2048x512) (x : FVec F S2048x1536 .bf16) : FVec F S2048x8x64 .f32 :=
  shapeCast _ (extractStridedSlice S2048x512 off (extf .f32 x bitsLt_bf16_f32) h) shapeCasts_S2048x512_S2048x8x64

def scores (x : FVec F S2048x1536 .bf16) : FVec F S8x2048x2048 .f32 :=
  Host.dotGeneral dot_S2048x8x64_S2048x8x64_S8x2048x2048_2_2_0_0_1_1 none (heads ![0, 0] slices_S2048x1536_S2048x512_0_0 x) (heads ![0, 512] slices_S2048x1536_S2048x512_0_512 x)

def causal : IVec S8x2048x2048 1 :=
  broadcastInDim S8x2048x2048 ![1, 2] bcast_S2048x2048_S8x2048x2048_1_2 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

def zeros : FVec F S8x2048x2048 .f32 := broadcastInDim S8x2048x2048 ![] bcast_S_S8x2048x2048 (constant S_ .f32 0x00000000#32)

/-- `log (sigmoid z)`. -/
def logSigmoid (z : FVec F S8x2048x2048 .f32) : FVec F S8x2048x2048 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

def survival (z : FVec F S8x2048x2048 .f32) : FVec F S8x2048x2048 .f32 :=
  select causal (logSigmoid (Host.negf z)) zeros

def window (l : FVec F S8x2048x2048 .f32) : FVec F S8x2048x2048 .f32 :=
  Host.reduceWindowAdd ![1, 1, 2048] ![1, 1, 1] ![0, 0, 0] ![0, 0, 2047] l (broadcastInDim S_ ![] bcast_S_S_ (constant S_ .f32 0x00000000#32)) reduceWindows_S8x2048x2048_S8x2048x2048_w1s1p0_0_w1s1p0_0_w2048s1p0_2047 h_S_

def weights (z : FVec F S8x2048x2048 .f32) : FVec F S8x2048x2048 .f32 :=
  select causal (Host.exp (addf (logSigmoid z) (subf (window (survival z)) (survival z)))) zeros

def output (x : FVec F S2048x1536 .bf16) : FVec F S2048x512 .f32 :=
  shapeCast _ (transpose S2048x8x64 [2, 0, 1] (Host.dotGeneral dot_S2048x8x64_S8x2048x2048_S8x64x2048_0_2_2_1_1_0 none
    (heads ![0, 1024] slices_S2048x1536_S2048x512_0_1024 x) (weights (scores x))) transposes_S8x64x2048_S2048x8x64_2_0_1) shapeCasts_S2048x8x64_S2048x512

def sums (x : FVec F S2048x1536 .bf16) : FVec F S2048x1024 .f32 :=
  shapeCast _ (broadcastInDim S2048x8x128 ![0, 1, 2] bcast_S2048x8x1_S2048x8x128_0_1_2 (broadcastInDim S2048x8x1 ![0, 1] bcast_S2048x8_S2048x8x1_0_1
    (transpose S2048x8 [1, 0] (Host.reduceAdd (survival (scores x)) (constant S_ .f32 0x00000000#32) reducesTo_S8x2048x2048_S8x2048_d2 h_S_) transposes_S8x2048_S2048x8_1_0))) shapeCasts_S2048x8x128_S2048x1024

/-- The run, in these terms. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = output (m ((c.tc : Thread nD τ).loc main_arg0))
      ∧ r.2.mem ((c.tc : Thread nD τ).loc main_v31) = sums (m ((c.tc : Thread nD τ).loc main_arg0))
      ∧ r.2.mem ((c.tc : Thread nD τ).loc main_arg0) = m ((c.tc : Thread nD τ).loc main_arg0) :=
  (θ_run defs _ _).mono (fun _ h c => ⟨(h c).1.trans rfl, (h c).2.1.trans rfl, (h c).2.2⟩) (Cert.Reference22Ideal.Value.run m ρ)

open Cert.Kernel22Ideal.Steps (sp lm tot wt coe_sum coe_max coe_abs log1p_coe)

theorem heads_apply (off : Fin 2 → Nat) (h : S2048x1536.Slices off S2048x512) (x : FVec Ideal S2048x1536 .bf16) (t : Fin 2048) (g : Fin 8) (d : Fin 64) (y : S2048x1536.Idx)
    (h0 : (y 0).val = off 0 + t.val) (h1 : (y 1).val = off 1 + (64 * g.val + d.val)) :
    heads off h x (ix3 t g d) = x y := by
  pointwise [heads]
  refine congrArg x (funext fun a => Fin.ext ?_)
  match a with
  | ⟨0, _⟩ => exact h0.symm
  | ⟨1, _⟩ => exact (show off 1 + (g.val * 64 + d.val) = _ by omega).trans h1.symm

/-- The score of query `t` against key `s` in head `g`. -/
def dotG (x : FVec Ideal S2048x1536 .bf16) (g : Fin 8) (t s : Fin 2048) : EReal :=
  ∑ d : Fin 64, x (ix2 t ⟨64 * g.val + d.val, by omega⟩) * x (ix2 s ⟨512 + (64 * g.val + d.val), by omega⟩)

theorem scores_apply (x : FVec Ideal S2048x1536 .bf16) (g : Fin 8) (t s : Fin 2048) : scores x (ix3 g t s) = dotG x g t s := by
  pointwise [scores, dotG]
  refine Finset.sum_congr rfl fun d _ => congrArg₂ (· * ·) (heads_apply _ _ x t g d _ ?_ ?_) (heads_apply _ _ x s g d _ ?_ ?_)
  · exact (Nat.zero_add _).symm
  · exact (Nat.zero_add _).symm
  · exact (Nat.zero_add _).symm
  · rfl

theorem slt_small (a b : ℕ) (ha : a < 2048) (hb : b < 2048) : IntOp.cmpi CmpIPredicate.slt (BitVec.ofNat 32 a) (BitVec.ofNat 32 b) = if a < b then 1#1 else 0#1 := by
  have ea : (BitVec.ofNat 32 a).toInt = (a : ℤ) := by rw [BitVec.toInt_eq_toNat_of_lt (by rw [BitVec.toNat_ofNat]; omega), BitVec.toNat_ofNat]; omega
  have eb : (BitVec.ofNat 32 b).toInt = (b : ℤ) := by rw [BitVec.toInt_eq_toNat_of_lt (by rw [BitVec.toNat_ofNat]; omega), BitVec.toNat_ofNat]; omega
  have e : (BitVec.ofNat 32 a).slt (BitVec.ofNat 32 b) = decide (a < b) := by
    rw [BitVec.slt_eq_decide, ea, eb]; simp
  show BitVec.ofBool _ = _
  rw [e]
  by_cases h : a < b <;> simp [h]

theorem causal_apply (g : Fin 8) (t s : Fin 2048) : causal (ix3 g t s) = if s.val < t.val then 1#1 else 0#1 := by
  pointwise [causal]
  exact slt_small _ _ s.isLt t.isLt

theorem logSigmoid_coe (z : FVec Ideal S8x2048x2048 .f32) (y) (r : ℝ) (hz : z y = (r : EReal)) : logSigmoid z y = ((-sp (-r) : ℝ) : EReal) := by
  pointwise [logSigmoid, zeros]
  rw [if_neg (fun h => h rfl), hz]
  rw [← EReal.coe_neg, coe_abs, Ideal.log1p, log1p_coe, ← EReal.coe_zero, ← coe_max, ← EReal.coe_add, ← EReal.coe_neg]; rfl

theorem sp_neg (r : ℝ) : -sp (-r) = r - sp r := by
  have h : max (-r) 0 = max r 0 - r := by
    rcases le_total r 0 with h | h
    · rw [max_eq_left (by linarith), max_eq_right h]; ring
    · rw [max_eq_right (by linarith), max_eq_left h]; ring
  rw [sp, sp, abs_neg, h]; ring

theorem survival_apply (z : FVec Ideal S8x2048x2048 .f32) (g : Fin 8) (t s : Fin 2048) (r : ℕ → ℝ) (hz : z (ix3 g t s) = (r s.val : EReal)) :
    survival z (ix3 g t s) = (lm r t.val s.val : EReal) := by
  have e : survival z (ix3 g t s) = Scalar.select (causal (ix3 g t s)) (logSigmoid (Host.negf z) (ix3 g t s)) (0 : EReal) := by
    pointwise [survival, zeros]
  have hn : Host.negf z (ix3 g t s) = ((-r s.val : ℝ) : EReal) := by
    pointwise
    rw [hz, EReal.coe_neg]
  rw [e, causal_apply, logSigmoid_coe _ _ _ hn, neg_neg, lm]
  split <;> rfl

theorem foldl_add (n : ℕ) (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, Fin.sum_univ_def]

/-- A window sum as a sum over the window's positions. -/
theorem reduceWindow_sum {s t u : Shape} (window strides lo hi : Fin s.rank → Nat) (x : s.Idx → EReal) (v : EReal)
    (h : s.ReduceWindows window strides lo hi t) (hu : 0 < u.numel) (j : t.Idx) (G : (⟨s.rank, window⟩ : Shape).Idx → EReal)
    (hin : ∀ i (hp : ∀ a, lo a ≤ (j (a.cast h.1.symm)).val * strides a + (i a).val ∧ (j (a.cast h.1.symm)).val * strides a + (i a).val - lo a < s.size a),
      x (fun a => ⟨(j (a.cast h.1.symm)).val * strides a + (i a).val - lo a, (hp a).2⟩) = G i)
    (hout : ∀ i, (¬ ∀ a, lo a ≤ (j (a.cast h.1.symm)).val * strides a + (i a).val ∧ (j (a.cast h.1.symm)).val * strides a + (i a).val - lo a < s.size a) → v = G i) :
    Host.reduceWindow (· + ·) window strides lo hi x (fun _ : u.Idx => v) h hu j = v + ∑ i, G i := by
  unfold Host.reduceWindow
  rw [← Equiv.sum_comp (⟨s.rank, window⟩ : Shape).rowMajor.symm G]
  refine (foldl_add _ _ v).trans (congrArg (v + ·) (Finset.sum_congr rfl fun n _ => ?_))
  dsimp only
  split
  · next hp => exact hin _ hp
  · next hp => exact hout _ hp

theorem window_apply (l : FVec Ideal S8x2048x2048 .f32) (g : Fin 8) (t s : Fin 2048) (L : ℕ → ℝ) (hl : ∀ j : Fin 2048, l (ix3 g t j) = (L j.val : EReal)) :
    window l (ix3 g t s) = ((∑ j ∈ Finset.Ico s.val 2048, L j : ℝ) : EReal) := by
  have hz : (broadcastInDim S_ ![] bcast_S_S_ (constant (F := Ideal) S_ .f32 0x00000000#32)) (Shape.Idx.first h_S_) = (0 : EReal) := by pointwise
  unfold window Host.reduceWindowAdd
  rw [hz, Ideal.hostReduceWindowAdd_def]
  unfold Ideal.hostReduceWindowAdd
  refine (reduceWindow_sum ![1, 1, 2048] ![1, 1, 1] ![0, 0, 0] ![0, 0, 2047] l 0 reduceWindows_S8x2048x2048_S8x2048x2048_w1s1p0_0_w1s1p0_0_w2048s1p0_2047 _ (ix3 g t s)
    (fun i => ((if s.val + (i 2).val < 2048 then L (s.val + (i 2).val) else 0 : ℝ) : EReal)) (fun i hin => ?_) (fun i hin => ?_)).trans ?_
  · have hi0 : (i 0).val = 0 := by have h : (i 0).val < 1 := (i 0).isLt; omega
    have hi1 : (i 1).val = 0 := by have h : (i 1).val < 1 := (i 1).isLt; omega
    have h2 := (hin 2).2
    change s.val * 1 + (i 2).val - 0 < 2048 at h2
    rw [if_pos (by omega)]
    refine (congrArg l (funext fun a => Fin.ext ?_)).trans (hl ⟨s.val + (i 2).val, by omega⟩)
    match a with
    | ⟨0, _⟩ => show g.val * 1 + (i 0).val - 0 = g.val; omega
    | ⟨1, _⟩ => show t.val * 1 + (i 1).val - 0 = t.val; omega
    | ⟨2, _⟩ => show s.val * 1 + (i 2).val - 0 = s.val + (i 2).val; omega
  · have hi0 : (i 0).val = 0 := by have h : (i 0).val < 1 := (i 0).isLt; omega
    have hi1 : (i 1).val = 0 := by have h : (i 1).val < 1 := (i 1).isLt; omega
    have hg := g.isLt
    have ht := t.isLt
    rw [if_neg fun hle => hin fun a => by
      match a with
      | ⟨0, _⟩ => show 0 ≤ g.val * 1 + (i 0).val ∧ g.val * 1 + (i 0).val - 0 < 8; omega
      | ⟨1, _⟩ => show 0 ≤ t.val * 1 + (i 1).val ∧ t.val * 1 + (i 1).val - 0 < 2048; omega
      | ⟨2, _⟩ => show 0 ≤ s.val * 1 + (i 2).val ∧ s.val * 1 + (i 2).val - 0 < 2048; omega]
    rfl
  · rw [zero_add]
    refine (sum_idx3 (n0 := 1) (n1 := 1) (n2 := 2048) _).trans ?_
    simp only [Finset.univ_unique, Finset.sum_singleton]
    rw [← coe_sum]
    refine congrArg _ ?_
    show ∑ k : Fin 2048, (if s.val + k.val < 2048 then L (s.val + k.val) else 0) = _
    rw [Fin.sum_univ_eq_sum_range (fun k => if s.val + k < 2048 then L (s.val + k) else 0) 2048, ← Finset.sum_filter, Finset.sum_Ico_eq_sum_range]
    refine Finset.sum_congr (Finset.ext fun k => ?_) fun _ _ => rfl
    simp only [Finset.mem_filter, Finset.mem_range]; omega

theorem weights_apply (z : FVec Ideal S8x2048x2048 .f32) (g : Fin 8) (t s : Fin 2048) (r : ℕ → ℝ) (hz : ∀ s : Fin 2048, z (ix3 g t s) = (r s.val : EReal)) :
    weights z (ix3 g t s) = (wt r t.val s.val : EReal) := by
  have e : weights z (ix3 g t s) = Scalar.select (causal (ix3 g t s))
      (Ideal.exp (logSigmoid z (ix3 g t s) + (window (survival z) (ix3 g t s) - survival z (ix3 g t s)))) (0 : EReal) := by
    pointwise [weights, zeros]
  have hs : ∀ s : Fin 2048, survival z (ix3 g t s) = (lm r t.val s.val : EReal) := fun s => survival_apply z g t s r (hz s)
  have ht : (∑ j ∈ Finset.Ico s.val 2048, lm r t.val j) - lm r t.val s.val = tot r t.val (s.val + 1) := by
    rw [Finset.sum_eq_sum_Ico_succ_bot s.isLt, tot]; ring
  rw [e, causal_apply, logSigmoid_coe _ _ _ (hz s), sp_neg, window_apply _ g t s _ hs, hs, ← EReal.coe_sub, ht, ← EReal.coe_add, Ideal.exp_coe, wt]
  split <;> rfl

theorem output_apply (x : FVec Ideal S2048x1536 .bf16) (z : Fin 8 → Fin 2048 → ℕ → ℝ) (hz : ∀ g t (s : Fin 2048), dotG x g t s = (z g t s.val : EReal))
    (t : Fin 2048) (g : Fin 8) (d : Fin 64) (c : Fin 512) (hc : c.val = 64 * g.val + d.val) :
    output x (ix2 t c) = ∑ j : Fin 2048, x (ix2 j ⟨1024 + (64 * g.val + d.val), by omega⟩) * (wt (z g t) t.val j.val : EReal) := by
  have e : output x (ix2 t c) = ∑ j : Fin 2048, heads ![0, 1024] slices_S2048x1536_S2048x512_0_1024 x (ix3 j ⟨c.val / 64, by omega⟩ ⟨c.val % 64, by omega⟩)
      * weights (scores x) (ix3 ⟨c.val / 64, by omega⟩ t j) := by
    pointwise [output]
  have eg : (⟨c.val / 64, by omega⟩ : Fin 8) = g := Fin.ext (by show c.val / 64 = _; omega)
  have ed : (⟨c.val % 64, by omega⟩ : Fin 64) = d := Fin.ext (by show c.val % 64 = _; omega)
  rw [e, eg, ed]
  refine Finset.sum_congr rfl fun j _ => congrArg₂ (· * ·) (heads_apply _ _ x j g d _ ?_ ?_)
    (weights_apply _ g t j (z g t) fun s => (scores_apply x g t s).trans (hz g t s))
  · exact (Nat.zero_add _).symm
  · rfl

theorem sums_apply (x : FVec Ideal S2048x1536 .bf16) (z : Fin 8 → Fin 2048 → ℕ → ℝ) (hz : ∀ g t (s : Fin 2048), dotG x g t s = (z g t s.val : EReal))
    (t : Fin 2048) (g : Fin 8) (c : Fin 1024) (hc : c.val / 128 = g.val) :
    sums x (ix2 t c) = (tot (z g t) t.val 0 : EReal) := by
  have e : sums x (ix2 t c) = ∑ j : Fin 2048, survival (scores x) (ix3 ⟨c.val / 128, by omega⟩ t j) := by
    pointwise [sums]
  have eg : (⟨c.val / 128, by omega⟩ : Fin 8) = g := Fin.ext hc
  rw [e, eg, tot, ← Finset.range_eq_Ico, ← Fin.sum_univ_eq_sum_range (fun j => lm (z g t) t.val j) 2048, coe_sum]
  exact Finset.sum_congr rfl fun j _ => survival_apply _ g t j (z g t) ((scores_apply x g t j).trans (hz g t j))

end Cert.Reference22Ideal.Stick

end
-- ==== Proof.Result22.lean ====
module

public import proofs.«01_k».proof.Proof.Frame22
public import proofs.«01_k».proof.Proof.Ref22

@[expose] public section

set_option maxRecDepth 16384

noncomputable section

/-! The two arrays of the attention's forward call are its reference's. -/

namespace Cert.Kernel22Ideal.Result

open Idealize.ShloMosaic Idealize.ShloMosaic.TcCoe Idealize.SL.Sem
open Idealize.ShloMosaic.Pipeline (Dat)
open Cert.Kernel22Ideal Cert.Kernel22Ideal.Gen Cert.Kernel22Ideal.Steps Cert.Kernel22Ideal.Own
open Cert.Reference22Ideal.Stick (dotG output sums output_apply sums_apply)

variable (m : (ℓ : Loc nD τ sig) → Buf (Elt Ideal) ℓ)

/-- The index maps, in the point's number. -/
theorem idx_val : ∀ t : Fin cfg0.N, win0_0.index t = ![t.val % 2, t.val / 2]
    ∧ win0_1.index t = ![0, 4 + t.val / 2]
    ∧ win0_2.index t = ![0, 8 + t.val / 2]
    ∧ win0_3.index t = ![t.val % 2, t.val / 2]
    ∧ win0_4.index t = ![t.val % 2, t.val / 2] :=
  (by decide +kernel : ∀ t : Fin grid0.N, _)

theorem coord_val : ∀ t : Fin cfg0.N, (grid0.coords t 1).val = t.val % 2 ∧ t.val < 8 :=
  (by decide +kernel : ∀ t : Fin grid0.N, _)

theorem read3 (s : Fin 8 → Carry Ideal) (y : S1024x128.Idx) (v : EReal)
    (hv : ∀ (a : Fin 8) (x : S128x128.Idx), (y 0).val = 128 * a.val + (x 0).val → (y 1).val = (x 1).val → (s a).acc x = v) :
    VO0_3.read (Elt Ideal) (VO0_3.writes (Elt Ideal) VO0_3.junk (pieces3 s)) y = v := by
  refine (View.read_writes_apply_eq_canon _ _ y (pieces3 s) (View.cover_of_tiledL (pieces3 s) S128x128.size (by rfl) y)).trans ?_
  unfold pieces3
  canon_tiles x h
  · exact hv 7 x (by simpa using h0) (by simpa using h1)
  · exact hv 6 x (by simpa using h0) (by simpa using h1)
  · exact hv 5 x (by simpa using h0) (by simpa using h1)
  · exact hv 4 x (by simpa using h0) (by simpa using h1)
  · exact hv 3 x (by simpa using h0) (by simpa using h1)
  · exact hv 2 x (by simpa using h0) (by simpa using h1)
  · exact hv 1 x (by simpa using h0) (by simpa using h1)
  · exact hv 0 x (by simpa using h0) (by simpa using h1)

theorem read4 (s : Fin 8 → Carry Ideal) (y : S1024x256.Idx) (v : EReal)
    (hv : ∀ (a : Fin 8) (x : S128x256.Idx), (y 0).val = 128 * a.val + (x 0).val → (y 1).val = (x 1).val → totals (s a).c0 (s a).c1 x = v) :
    VO0_4.read (Elt Ideal) (VO0_4.writes (Elt Ideal) VO0_4.junk (pieces4 s)) y = v := by
  refine (View.read_writes_apply_eq_canon _ _ y (pieces4 s) (View.cover_of_tiledL (pieces4 s) S128x256.size (by rfl) y)).trans ?_
  unfold pieces4
  canon_tiles x h
  · exact hv 7 x (by simpa using h0) (by simpa using h1)
  · exact hv 6 x (by simpa using h0) (by simpa using h1)
  · exact hv 5 x (by simpa using h0) (by simpa using h1)
  · exact hv 4 x (by simpa using h0) (by simpa using h1)
  · exact hv 3 x (by simpa using h0) (by simpa using h1)
  · exact hv 2 x (by simpa using h0) (by simpa using h1)
  · exact hv 1 x (by simpa using h0) (by simpa using h1)
  · exact hv 0 x (by simpa using h0) (by simpa using h1)

/-- The argument. -/
abbrev X (c : Dev nD) : FVec Ideal S2048x1536 .bf16 := m ((c : Thread nD τ).loc main_arg0)

theorem blk0 (c : Dev nD) (t : Fin cfg0.N) (y : S1024x128.Idx) (j : S2048x1536.Idx)
    (h0 : (j 0).val = 1024 * (t.val % 2) + (y 0).val) (h1 : (j 1).val = 128 * (t.val / 2) + (y 1).val) : iblk m c 0 t y = X m c j := by
  blk_simp [iblk, V, idx_val t]
  refine congrArg (X m c) (funext fun a => Fin.ext ?_)
  match a with
  | ⟨0, _⟩ => refine Eq.trans ?_ h0.symm; blk_simp [idx_val t]; show t.val % 2 * 1024 + (y 0).val = _; omega
  | ⟨1, _⟩ => refine Eq.trans ?_ h1.symm; blk_simp [idx_val t]; show t.val / 2 * 128 + (y 1).val = _; omega

theorem blk1 (c : Dev nD) (t : Fin cfg0.N) (y : S2048x128.Idx) (j : S2048x1536.Idx)
    (h0 : (j 0).val = (y 0).val) (h1 : (j 1).val = 512 + 128 * (t.val / 2) + (y 1).val) : iblk m c 1 t y = X m c j := by
  blk_simp [iblk, V, idx_val t]
  refine congrArg (X m c) (funext fun a => Fin.ext ?_)
  match a with
  | ⟨0, _⟩ => refine Eq.trans ?_ h0.symm; blk_simp [idx_val t]; rfl
  | ⟨1, _⟩ => refine Eq.trans ?_ h1.symm; blk_simp [idx_val t]; show (4 + t.val / 2) * 128 + (y 1).val = _; omega

theorem blk2 (c : Dev nD) (t : Fin cfg0.N) (y : S2048x128.Idx) (j : S2048x1536.Idx)
    (h0 : (j 0).val = (y 0).val) (h1 : (j 1).val = 1024 + 128 * (t.val / 2) + (y 1).val) : iblk m c 2 t y = X m c j := by
  blk_simp [iblk, V, idx_val t]
  refine congrArg (X m c) (funext fun a => Fin.ext ?_)
  match a with
  | ⟨0, _⟩ => refine Eq.trans ?_ h0.symm; blk_simp [idx_val t]; rfl
  | ⟨1, _⟩ => refine Eq.trans ?_ h1.symm; blk_simp [idx_val t]; show (8 + t.val / 2) * 128 + (y 1).val = _; omega

section
variable (c : Dev nD) (z : Fin 8 → Fin 2048 → ℕ → ℝ) (hz : ∀ g t (s : Fin 2048), dotG (X m c) g t s = (z g t s.val : EReal))

/-- The head of the pair at point `t`. -/
def gOf (t : Fin cfg0.N) (h : Fin 2) : Fin 8 := ⟨2 * (t.val / 2) + h.val, by have := (coord_val t).2; omega⟩

/-- The query of row `r` of query block `a` at point `t`. -/
def tOf (t : Fin cfg0.N) (a : Fin 8) (r : Fin 128) : Fin 2048 := ⟨128 * (8 * (t.val % 2) + a.val) + r.val, by omega⟩

include hz in
theorem holds_final (t : Fin cfg0.N) (a : Fin 8) :
    Holds (fun h r => z (gOf t h) (tOf t a r)) (128 * (8 * (t.val % 2) + a.val)) (fun j c' => X m c (ix2 ⟨j % 2048, Nat.mod_lt _ (by decide)⟩ ⟨1024 + (128 * (t.val / 2) + c'.val), by have := (coord_val t).2; omega⟩)) 0
      (final (grid0.coords t) (iblk m c 0 t) (iblk m c 1 t) (iblk m c 2 t) a) := by
  have ht := (coord_val t).2
  have e := holds_chain (fun h r => z (gOf t h) (tOf t a r)) (fun j c' => X m c (ix2 ⟨j % 2048, Nat.mod_lt _ (by decide)⟩ ⟨1024 + (128 * (t.val / 2) + c'.val), by omega⟩))
    (8 * (t.val % 2) + a.val) (by omega) (qb (iblk m c 0 t) a) (kb (iblk m c 1 t)) (kb (iblk m c 2 t)) (fun b hb h r j => ?_) (fun b hb j c' => ?_) (8 * (t.val % 2) + a.val) le_rfl
  · rw [Nat.sub_self, Nat.mul_zero] at e
    unfold final
    rw [(coord_val t).1, Nat.add_comm a.val]
    exact e
  · refine Eq.trans ?_ (hz (gOf t h) (tOf t a r) ⟨128 * b + j.val, by omega⟩)
    unfold dotH dotG
    refine Finset.sum_congr rfl fun d _ => congrArg₂ (· * ·) (blk0 m c t _ _ ?_ ?_) (blk1 m c t _ _ ?_ ?_)
    · show 128 * (8 * (t.val % 2) + a.val) + r.val = 1024 * (t.val % 2) + (128 * a.val + r.val); omega
    · show 64 * (2 * (t.val / 2) + h.val) + d.val = 128 * (t.val / 2) + (64 * h.val + d.val); omega
    · show 128 * b + j.val = (128 * b + j.val) % 2048; omega
    · show 512 + (64 * (2 * (t.val / 2) + h.val) + d.val) = 512 + 128 * (t.val / 2) + (64 * h.val + d.val); omega
  · refine blk2 m c t _ _ ?_ ?_
    · rfl
    · show 1024 + (128 * (t.val / 2) + c'.val) = 1024 + 128 * (t.val / 2) + c'.val; omega

include hz in
theorem final_acc (t : Fin cfg0.N) (a : Fin 8) (x : S128x128.Idx) (j : S2048x512.Idx)
    (h0 : (j 0).val = 1024 * (t.val % 2) + (128 * a.val + (x 0).val)) (h1 : (j 1).val = 128 * (t.val / 2) + (x 1).val) :
    (final (grid0.coords t) (iblk m c 0 t) (iblk m c 1 t) (iblk m c 2 t) a).acc x = output (X m c) j := by
  have ht := (coord_val t).2
  obtain ⟨r, hr⟩ : ∃ r : Fin 128, x 0 = r := ⟨x 0, rfl⟩
  obtain ⟨h, d, hd⟩ : ∃ (h : Fin 2) (d : Fin 64), x 1 = lane h d :=
    have hx : (x 1).val < 128 := (x 1).isLt
    ⟨⟨(x 1).val / 64, by omega⟩, ⟨(x 1).val % 64, by omega⟩, Fin.ext (show (x 1).val = 64 * ((x 1).val / 64) + (x 1).val % 64 by omega)⟩
  have hx : x = ix2 r (lane h d) := by rw [eq_ix2 x, hr, hd]
  have hj : j = ix2 (tOf t a r) ⟨64 * (gOf t h).val + d.val, by omega⟩ := by
    rw [eq_ix2 j]
    refine congrArg₂ ix2 (Fin.ext ?_) (Fin.ext ?_)
    · rw [h0, hr]; show _ = 128 * (8 * (t.val % 2) + a.val) + r.val; omega
    · rw [h1, hd]; show 128 * (t.val / 2) + (64 * h.val + d.val) = 64 * (2 * (t.val / 2) + h.val) + d.val; omega
  rw [hx, hj, (holds_final m c z hz t a).acc, output_apply _ z hz (tOf t a r) (gOf t h) d _ rfl, ← Finset.range_eq_Ico,
    ← Fin.sum_univ_eq_sum_range (fun j => (wt (z (gOf t h) (tOf t a r)) (128 * (8 * (t.val % 2) + a.val) + r.val) j : EReal) * X m c (ix2 ⟨j % 2048, Nat.mod_lt _ (by decide)⟩ ⟨1024 + (128 * (t.val / 2) + (lane h d).val), by omega⟩)) 2048]
  refine Finset.sum_congr rfl fun k _ => ?_
  rw [mul_comm]
  refine congrArg₂ (· * ·) (congrArg (X m c) (congrArg₂ ix2 (Fin.ext (Nat.mod_eq_of_lt k.isLt)) (Fin.ext ?_))) rfl
  show 1024 + (128 * (t.val / 2) + (64 * h.val + d.val)) = 1024 + (64 * (2 * (t.val / 2) + h.val) + d.val); omega

include hz in
theorem final_tot (t : Fin cfg0.N) (a : Fin 8) (x : S128x256.Idx) (j : S2048x1024.Idx)
    (h0 : (j 0).val = 1024 * (t.val % 2) + (128 * a.val + (x 0).val)) (h1 : (j 1).val = 256 * (t.val / 2) + (x 1).val) :
    totals (final (grid0.coords t) (iblk m c 0 t) (iblk m c 1 t) (iblk m c 2 t) a).c0 (final (grid0.coords t) (iblk m c 0 t) (iblk m c 1 t) (iblk m c 2 t) a).c1 x = sums (X m c) j := by
  have ht := (coord_val t).2
  obtain ⟨r, hr⟩ : ∃ r : Fin 128, x 0 = r := ⟨x 0, rfl⟩
  obtain ⟨h, d, hd⟩ : ∃ (h : Fin 2) (d : Fin 128), x 1 = half h d :=
    have hx : (x 1).val < 256 := (x 1).isLt
    ⟨⟨(x 1).val / 128, by omega⟩, ⟨(x 1).val % 128, by omega⟩, Fin.ext (show (x 1).val = 128 * ((x 1).val / 128) + (x 1).val % 128 by omega)⟩
  have hx : x = ix2 r (half h d) := by rw [eq_ix2 x, hr, hd]
  have hj : j = ix2 (tOf t a r) ⟨128 * (gOf t h).val + d.val, by omega⟩ := by
    rw [eq_ix2 j]
    refine congrArg₂ ix2 (Fin.ext ?_) (Fin.ext ?_)
    · rw [h0, hr]; show _ = 128 * (8 * (t.val % 2) + a.val) + r.val; omega
    · rw [h1, hd]; show 256 * (t.val / 2) + (128 * h.val + d.val) = 128 * (2 * (t.val / 2) + h.val) + d.val; omega
  rw [hx, hj, sums_apply _ z hz (tOf t a r) (gOf t h) _ (by show (128 * (gOf t h).val + d.val) / 128 = _; omega)]
  generalize hs : final (grid0.coords t) (iblk m c 0 t) (iblk m c 1 t) (iblk m c 2 t) a = s
  have H := holds_final m c z hz t a
  rw [hs] at H
  pointwise [totals]
  fin_cases h
  · have e0 : (half 0 d).val = d.val := by simp [half]
    simp only [Fin.zero_eta, e0, d.isLt, dite_true]
    exact H.c0 r d
  · have e1 : (half 1 d).val = 128 + d.val := by simp [half]
    have e : ¬ 128 + d.val < 128 := by omega
    simp only [Fin.mk_one, e1, e, dite_false, Nat.add_sub_cancel_left]
    exact H.c1 r d

include hz in
theorem array_3 : (Own.dats m 0 c).arrAt 3 (cfgs 0).N = output (X m c) := by
  refine (Own.dats m 0 c).arrAt_eq_of_covers 3 _ (by decide +kernel) fun t hf y => ?_
  blk_simp
  rw [Own.after0_3]
  unfold Own.outsAt0 Own.out0_A_3
  dsimp only
  obtain ⟨T, h1, h2, hT⟩ := run_tuple c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
  rw [h1, hT, unflat_flat]
  refine read3 _ y _ fun a x e0 e1 => final_acc m c z hz t a x _ ?_ ?_
  · blk_simp [idx_val t]; try omega
  · blk_simp [idx_val t]; try omega

include hz in
theorem array_4 : (Own.dats m 0 c).arrAt 4 (cfgs 0).N = sums (X m c) := by
  refine (Own.dats m 0 c).arrAt_eq_of_covers 4 _ (by decide +kernel) fun t hf y => ?_
  blk_simp
  rw [Own.after0_4]
  unfold Own.outsAt0 Own.out0_A_4
  dsimp only
  obtain ⟨T, h1, h2, hT⟩ := run_tuple c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
  rw [h2, hT, unflat_flat]
  refine read4 _ y _ fun a x e0 e1 => final_tot m c z hz t a x _ ?_ ?_
  · blk_simp [idx_val t]; try omega
  · blk_simp [idx_val t]; try omega

end

end Cert.Kernel22Ideal.Result

end
-- ==== Proof.Finite22.lean ====
module

public import proofs.«01_k».proof.Proof.Result22
public import proofs.«01_k».proof.Proof.Gen.Pre_finite_qk

@[expose] public section

set_option maxRecDepth 16384

noncomputable section

/-! Queries and keys that are no infinity have scores that are real numbers. -/

namespace Cert.Kernel22Ideal.Result

open Idealize.ShloMosaic Idealize.ShloMosaic.TcCoe Idealize.SL.Sem
open Cert.Kernel22Ideal Cert.Kernel22Ideal.Steps
open Cert.Reference22Ideal.Stick (dotG)

/-- What the precondition says of one entry. -/
theorem entry_real (x : FVec Ideal S2048x1536 .bf16)
    (hx : Cert.Pre_finite_qk.fn (F := Ideal) x = fun _ => 1#1) (t : Fin 2048) (k : ℕ) (hk : k < 1024) :
    ∃ r : ℝ, (x (ix2 t ⟨k, by omega⟩) : EReal) = (r : EReal) := by
  have h := congrFun hx (ix2 t ⟨k, hk⟩)
  have htop : Ideal.ofBits .f32 0x7F800000#32 = ⊤ := by simp [Ideal.ofBits, Ideal.ieee]
  have e : extractStridedSlice (s := S2048x1536) S2048x1024 ![0, 0] x
      Cert.Pre_finite_qk.Facts.slices_S2048x1536_S2048x1024_0_0 (ix2 t ⟨k, hk⟩) = x (ix2 t ⟨k, by omega⟩) := by
    refine congrArg x (funext fun a => Fin.ext ?_)
    fin_cases a
    · exact Nat.zero_add _
    · exact Nat.zero_add _
  change Ideal.cmp .olt (max (extractStridedSlice (s := S2048x1536) S2048x1024 ![0, 0] x
      Cert.Pre_finite_qk.Facts.slices_S2048x1536_S2048x1024_0_0 (ix2 t ⟨k, hk⟩) : EReal)
      (-(extractStridedSlice (s := S2048x1536) S2048x1024 ![0, 0] x
      Cert.Pre_finite_qk.Facts.slices_S2048x1536_S2048x1024_0_0 (ix2 t ⟨k, hk⟩) : EReal))) (Ideal.ofBits .f32 0x7F800000#32) = 1#1 at h
  rw [htop, e] at h
  generalize (x (ix2 t ⟨k, by omega⟩) : EReal) = y at h ⊢
  induction y using EReal.rec with
  | bot => simp [Ideal.cmp] at h
  | coe r => exact ⟨r, rfl⟩
  | top => simp [Ideal.cmp] at h

/-- The scores are real. -/
theorem scores_real (x : FVec Ideal S2048x1536 .bf16) (hx : Cert.Pre_finite_qk.fn (F := Ideal) x = fun _ => 1#1) :
    ∃ z : Fin 8 → Fin 2048 → ℕ → ℝ, ∀ g t (s : Fin 2048), dotG x g t s = (z g t s.val : EReal) := by
  choose q hq using fun (t : Fin 2048) (k : Fin 1024) => entry_real x hx t k.val k.isLt
  refine ⟨fun g t s => ∑ d : Fin 64, q t ⟨64 * g.val + d.val, by omega⟩ *
    q ⟨s % 2048, Nat.mod_lt _ (by decide)⟩ ⟨512 + (64 * g.val + d.val), by omega⟩, fun g t s => ?_⟩
  have hs : (⟨s.val % 2048, Nat.mod_lt _ (by decide)⟩ : Fin 2048) = s := Fin.ext (Nat.mod_eq_of_lt s.isLt)
  simp only [hs]
  unfold dotG
  rw [coe_sum]
  refine Finset.sum_congr rfl fun d _ => ?_
  rw [EReal.coe_mul]
  exact congrArg₂ (· * ·) (hq t ⟨64 * g.val + d.val, by omega⟩) (hq s ⟨512 + (64 * g.val + d.val), by omega⟩)

end Cert.Kernel22Ideal.Result

end
-- ==== Proof.Claim22.lean ====
module

public import proofs.«01_k».proof.Defs
public import proofs.«01_k».proof.Proof.Finite22
public import proofs.«01_k».proof.Proof.Gen.Kernel22
public import proofs.«01_k».proof.Proof.Gen.Kernel22Ideal
public import proofs.«01_k».proof.Proof.Gen.Reference22Ideal
public import proofs.«01_k».proof.Proof.Gen.Pre_finite_qk
public import Idealize.ShloMosaic.Lib.Claim
public import Idealize.ShloMosaic.Adequacy

@[expose] public section

set_option maxRecDepth 16384

noncomputable section

/-! The claims about the attention's forward call. -/

namespace Cert.Proof

open Idealize.ShloMosaic Idealize.SL.Sem

variable {F : FTy → Type} [FloatOps F]

/-- The kernel's body is the idealized kernel's. -/
theorem body22 (ℓ : Cert.Kernel22Ideal.Λ₀.Label) (a : Cert.Kernel22Ideal.Λ₀.Args ℓ) :
    Cert.Kernel22.defs₀ (F := F) .tc ℓ a = Cert.Kernel22Ideal.defs₀ (F := F) .tc ℓ a := by
  match ℓ, a with
  | 0, (t, s) => rfl

/-- On every thread. -/
theorem bodies22 : Cert.Kernel22.defs₀ (F := F) = Cert.Kernel22Ideal.defs₀ (F := F) := by
  funext c ℓ a
  cases c with
  | tc => exact body22 ℓ a
  | scScalar _ => rfl
  | scVector _ _ => rfl

/-- And so are the bodies with the pipeline about them. -/
theorem table22 : Cert.Kernel22.defs (F := F) = Cert.Kernel22Ideal.defs (F := F) :=
  congrArg (Pipeline.defs Cert.Kernel22Ideal.pcfgs) bodies22

/-- The kernel's run at the machine's own arithmetic. -/
theorem frame_kernel22 : Cert.quiescent_Kernel22 := fun m ρ _ => by
  have h := Cert.Kernel22Ideal.Own.frame (F := Bits) m ρ
  rw [← table22] at h
  exact h

/-- The idealized kernel's run. -/
theorem frame_kernel22Ideal : Cert.quiescent_Kernel22Ideal := fun m ρ _ =>
  Cert.Kernel22Ideal.Own.frame (F := Ideal) m ρ

/-- The reference of the attention's forward call runs and leaves its argument alone. -/
theorem frame_reference22 : Cert.quiescent_Reference22Ideal := fun m ρ _ =>
  (θ_run Cert.Reference22Ideal.defs _ _).mono (fun r h => ⟨fun c => (h c).2.2,
      Idealize.ShloMosaic.sem_eq_zero_of_no_sems (by decide) r.2⟩)
    (Cert.Reference22Ideal.Stick.run (F := Ideal) m ρ)

/-- The same where the queries and keys are no infinity. -/
theorem frame_kernel22Ideal_pre : Cert.quiescent_Kernel22Ideal_pre_finite_qk := fun m ρ _ =>
  frame_kernel22Ideal m ρ trivial

/-- And of the reference. -/
theorem frame_reference22_pre : Cert.quiescent_Reference22Ideal_pre_finite_qk := fun m ρ _ =>
  frame_reference22 m ρ trivial

/-- Over the extended reals the attention's forward call leaves what its reference leaves, whatever the values are, where
    the queries and keys are no infinity. -/
theorem algebraic22 : Cert.algebraic_Kernel22Ideal_Reference22Ideal_pre_finite_qk := by
  intro m g m' g' hpre hagree
  have scores := fun c : Dev Cert.Kernel22Ideal.nD =>
    Cert.Kernel22Ideal.Result.scores_real (Cert.Kernel22Ideal.Result.X m c) (hpre c)
  refine ⟨fun c => Cert.Reference22Ideal.Stick.output (Cert.Kernel22Ideal.Result.X m c),
    fun c => Cert.Reference22Ideal.Stick.sums (Cert.Kernel22Ideal.Result.X m c), ?_, ?_⟩
  · refine (θ_run Cert.Kernel22Ideal.defs _ _).mono (fun r h c => ?_) (Cert.Kernel22Ideal.Own.run_main (F := Ideal) m g)
    obtain ⟨z, hz⟩ := scores c
    exact ⟨(Cert.Kernel22Ideal.Own.post3 m r h c).trans (Cert.Kernel22Ideal.Result.array_3 m c z hz),
      (Cert.Kernel22Ideal.Own.post4 m r h c).trans (Cert.Kernel22Ideal.Result.array_4 m c z hz),
      Cert.Kernel22Ideal.Own.kept_main_arg0 m r h c⟩
  · refine (θ_run Cert.Reference22Ideal.defs _ _).mono (fun r h c => ?_) (Cert.Reference22Ideal.Stick.run (F := Ideal) m' g')
    exact ⟨(h c).1.trans (congrArg Cert.Reference22Ideal.Stick.output (hagree c)),
      (h c).2.1.trans (congrArg Cert.Reference22Ideal.Stick.sums (hagree c)), (h c).2.2⟩

end Cert.Proof

end
-- ==== Proof.Result23.lean ====
module

public import proofs.«01_k».proof.Proof.Gen.Kernel23Ideal.Frame
public import proofs.«01_k».proof.Proof.Gen.Reference23Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference23Ideal.Term

open Cert.Reference23Ideal Cert.Reference23Ideal.Gen

/-- The reference's result as one term of its arguments. -/
def ref (a0 : FVec Ideal S2048x1024 .f32) (a1 : FVec Ideal S4x1024 .f32) : FVec Ideal S2048x1024 .bf16 :=
  truncf .bf16 (mulf (mulf a0 (broadcastInDim S2048x1024 ![0, 1] bcast_S2048x1_S2048x1024_0_1 (Host.rsqrt (addf (Host.divf (broadcastInDim S2048x1 ![0] bcast_S2048_S2048x1_0 (Host.reduceAdd (mulf a0 a0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 (shapeCast _ (extractStridedSlice S1x1024 ![0, 0] a1 slices_S4x1024_S1x1024_0_0) shapeCasts_S1x1024_S1024)))) bitsLt_bf16_f32

end Cert.Reference23Ideal.Term

namespace Cert.Kernel23Ideal.Result

open Cert.Kernel23Ideal Cert.Kernel23Ideal.Gen Cert.Reference23Ideal.Term

variable (m : (ℓ : Loc nD τ sig) → Buf (Elt Ideal) ℓ)

/-- The index maps, in the point's number. -/
theorem idx_val : ∀ t : Fin cfg0.N, win0_0.index t = ![t.val, 0]
    ∧ win0_1.index t = ![0, 0, 0]
    ∧ win0_2.index t = ![t.val, 0] :=
  (by decide +kernel : ∀ t : Fin grid0.N, _)

theorem point (c : Dev nD) (t : Fin cfg0.N) (y) :
    k0_pay1 (iblk m c 0 t) (iblk m c 1 t) y
      = ref (m ((c : Thread nD τ).loc main_arg0)) (m ((c : Thread nD τ).loc main_arg1)) (((cfg0.win 2).blk t).view.emb y) := by
  pointwise [k0_pay1, ref]; blk_point [iblk, V, idx_val t]

theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel23Ideal.Result

end
-- ==== Proof.Result24.lean ====
module

public import proofs.«01_k».proof.Proof.Gen.Kernel24Ideal.Frame
public import proofs.«01_k».proof.Proof.Gen.Reference24Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference24Ideal.Term

open Cert.Reference24Ideal Cert.Reference24Ideal.Gen

/-- The gradient of the loss. -/
def dy (a0 a1 : FVec Ideal S2048x1024 .f32) : FVec Ideal S2048x1024 .f32 :=
  mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (subf a0 a1))

/-- The loss. -/
def loss (a0 a1 : FVec Ideal S2048x1024 .f32) : FVec Ideal S1x1 .f32 :=
  shapeCast _ (mulf (constant S_ .f32 0x3F000000#32) (Host.reduceAdd (Host.divf (Host.reduceAdd (mulf (subf a0 a1) (subf a0 a1)) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_)) shapeCasts_S_S1x1

end Cert.Reference24Ideal.Term

namespace Cert.Kernel24Ideal.Result

open Cert.Kernel24Ideal Cert.Kernel24Ideal.Gen Cert.Reference24Ideal.Term

variable (m : (ℓ : Loc nD τ sig) → Buf (Elt Ideal) ℓ)

/-- The index maps, in the point's number. -/
theorem idx_val : ∀ t : Fin cfg0.N, win0_0.index t = ![t.val, 0]
    ∧ win0_1.index t = ![t.val, 0]
    ∧ win0_2.index t = ![t.val, 0]
    ∧ win0_3.index t = ![0, 0] :=
  (by decide +kernel : ∀ t : Fin grid0.N, _)

/-- A square is not negative. -/
theorem sq_nonneg (e : EReal) : 0 ≤ e * e := by
  rcases le_total 0 e with h | h
  · exact mul_nonneg h h
  · rw [← neg_mul_neg]; exact mul_nonneg (EReal.neg_nonneg.2 h) (EReal.neg_nonneg.2 h)

/-- A constant goes over a sum of terms that are not negative. -/
theorem mul_sum_nonneg {n : ℕ} (a : EReal) (f : Fin n → EReal) (hf : ∀ i, 0 ≤ f i) : a * ∑ i, f i = ∑ i, a * f i := by
  classical
  refine Finset.induction_on (motive := fun s => a * ∑ i ∈ s, f i = ∑ i ∈ s, a * f i) Finset.univ (by simp) fun i s hi ih => ?_
  rw [Finset.sum_insert hi, Finset.sum_insert hi, EReal.left_distrib_of_nonneg (hf i) (Finset.sum_nonneg fun j _ => hf j), ih]

/-- Dividing by the row's length. -/
theorem div_len (x : EReal) : Ideal.div x (Ideal.ofBits .f32 0x44800000#32) = x * ((1 / 1024 : ℝ) : EReal) := by
  simp [Ideal.div, Ideal.ofBits, Ideal.ieee]
  simp only [← EReal.coe_mul, ← EReal.coe_inv]
  norm_num

theorem half_len : Ideal.ofBits .f32 0x3F000000#32 * ((1 / 1024 : ℝ) : EReal) = Ideal.ofBits .f32 0x3A000000#32 := by
  simp [Ideal.ofBits, Ideal.ieee]
  simp only [← EReal.coe_mul, ← EReal.coe_inv]
  norm_num

/-- A row's squared differences. -/
def sqs (x y : Fin 1024 → EReal) : EReal := ∑ k, (x k - y k) * (x k - y k)

theorem sqs_nonneg (x y : Fin 1024 → EReal) : 0 ≤ sqs x y := Finset.sum_nonneg fun _ _ => sq_nonneg _

/-- Adding one block's squared differences to what is there. -/
theorem hpay4 (x0 x1 : FVec Ideal S512x1024 .f32) (acc : FVec Ideal S1x1 .f32) (j) :
    (k0_pay4 (F := Ideal) x0 x1 acc j : EReal) = acc j + ∑ r : Fin 512, Ideal.ofBits .f32 0x3A000000#32 * sqs (fun k => x0 (ix2 r k)) (fun k => x1 (ix2 r k)) := by
  rw [← mul_sum_nonneg _ _ fun r => sqs_nonneg _ _]
  pointwise [k0_pay4, k0_pay1, sqs]

theorem hpay3 (j) : (k0_pay3 (F := Ideal) j : EReal) = 0 := by
  pointwise [k0_pay3]

theorem href (x0 x1 : FVec Ideal S2048x1024 .f32) (j) :
    (loss x0 x1 j : EReal) = ∑ r : Fin 2048, Ideal.ofBits .f32 0x3A000000#32 * sqs (fun k => x0 (ix2 r k)) (fun k => x1 (ix2 r k)) := by
  rw [← half_len]
  refine .trans ?_ (Finset.sum_congr rfl fun r _ => (mul_assoc _ _ _).symm)
  rw [← mul_sum_nonneg _ _ fun r => mul_nonneg (EReal.coe_nonneg.2 (by norm_num)) (sqs_nonneg _ _)]
  pointwise [loss, sqs]
  refine congrArg _ (Finset.sum_congr rfl fun r _ => ?_)
  rw [div_len, mul_comm]

theorem hdy (e : EReal) : e * Ideal.ofBits .f32 0x3A800000#32
    = Ideal.div (Ideal.ofBits .f32 0x3F000000#32) (Ideal.ofBits .f32 0x44800000#32) * (Ideal.ofBits .f32 0x40000000#32 * e) := by
  rw [div_len, mul_comm, ← mul_assoc]
  congr 1
  simp [Ideal.ofBits, Ideal.ieee]
  simp only [← EReal.coe_mul, ← EReal.coe_inv]
  norm_num

theorem point_dy (c : Dev nD) (t : Fin cfg0.N) (y) :
    k0_pay2 (iblk m c 0 t) (iblk m c 1 t) y
      = dy (m ((c : Thread nD τ).loc main_arg0)) (m ((c : Thread nD τ).loc main_arg1)) (((cfg0.win 2).blk t).view.emb y) := by
  pointwise [k0_pay2, k0_pay1, dy]
  rw [hdy]
  blk_point [iblk, V, idx_val t]

theorem final_dy (c : Dev nD) : (dats m 0 c).arrAt 2 (cfgs 0).N = dy (m ((c : Thread nD τ).loc main_arg0)) (m ((c : Thread nD τ).loc main_arg1)) := by
  refine (dats m 0 c).arrAt_eq_of_covers 2 _ (by decide +kernel) fun t hf y => ?_
  blk_simp; rw [after0_2]
  by_cases h : t.val % 4 = 0
  · rw [outsAt0_A m c t h]; frame_out
    exact point_dy m c t y
  · rw [outsAt0_B m c t h]; frame_out
    exact point_dy m c t y

theorem final_loss (c : Dev nD) : (dats m 0 c).arrAt 3 (cfgs 0).N = loss (m ((c : Thread nD τ).loc main_arg0)) (m ((c : Thread nD τ).loc main_arg1)) := by
  refine (dats m 0 c).arrAt_eq_of_after_last 3 t0_3 (by decide +kernel) _ fun j => ?_
  blk_simp
  rw [after0_3, Pipeline.eq_sum_fin_of_reset_step_apply_last (fun n h => (outsAt0 m c n h).2) 4 (fun _ => 0) _
    (fun t h j => by
      rw [outsAt0_A m c t h]; frame_out
      rw [hpay4, hpay3])
    (fun t h j => by
      rw [outsAt0_B m c t h]; frame_out
      rw [hpay4])
    (le_of_eq N_0) t0_3 rfl j, zero_add, href]
  refine Fin.sum_mul_add_congr fun t k hl => ?_
  blk_point [sqs, iblk, V, idx_val t]

end Cert.Kernel24Ideal.Result

end
-- ==== Proof.Result25.lean ====
module

public import proofs.«01_k».proof.Proof.Gen.Kernel25Ideal.Frame
public import proofs.«01_k».proof.Proof.Gen.Reference25Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference25Ideal.Term

open Cert.Reference25Ideal Cert.Reference25Ideal.Gen

/-- The layer's gain, at every row. -/
def gain (a2 : FVec Ideal S4x1024 .f32) : FVec Ideal S2048x1024 .f32 :=
  broadcastInDim S2048x1024 ![0, 1] bcast_S1x1024_S2048x1024_0_1 (broadcastInDim S1x1024 ![1] bcast_S1024_S1x1024_1 (shapeCast _ (extractStridedSlice S1x1024 ![0, 0] a2 slices_S4x1024_S1x1024_0_0) shapeCasts_S1x1024_S1024))

/-- The mean square of each row, with the constant added. -/
def meanSq (a1 : FVec Ideal S2048x1024 .f32) : FVec Ideal S2048x1 .f32 :=
  addf (Host.divf (broadcastInDim S2048x1 ![0] bcast_S2048_S2048x1_0 (Host.reduceAdd (mulf a1 a1) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

/-- What comes back through the mean square, at every entry of the row. -/
def pull (a0 a1 : FVec Ideal S2048x1024 .f32) (a2 : FVec Ideal S4x1024 .f32) : FVec Ideal S2048x1024 .f32 :=
  broadcastInDim S2048x1024 ![0] bcast_S2048_S2048x1024_0 (Host.reduceAdd (Host.divf (mulf (shapeCast _ (Host.reduceAdd (mulf a1 (mulf a0 (gain a2))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (meanSq a1)) (meanSq a1)))) (broadcastInDim S2048x1 ![] bcast_S_S2048x1 (constant S_ .f32 0x44800000#32))) (constant S_ .f32 0x00000000#32) reducesTo_S2048x1_S2048_d1 h_S_)

/-- The gradient of the input, with the residual's added. -/
def dx (a0 a1 : FVec Ideal S2048x1024 .f32) (a2 : FVec Ideal S4x1024 .f32) (a3 : FVec Ideal S2048x1024 .f32) : FVec Ideal S2048x1024 .f32 :=
  addf (addf (addf a3 (mulf (mulf a0 (gain a2)) (broadcastInDim S2048x1024 ![0, 1] bcast_S2048x1_S2048x1024_0_1 (Host.rsqrt (meanSq a1))))) (mulf a1 (pull a0 a1 a2))) (mulf (pull a0 a1 a2) a1)

/-- The gradient of the gain. -/
def dg (a0 a1 : FVec Ideal S2048x1024 .f32) : FVec Ideal S1x1024 .f32 :=
  shapeCast _ (Host.reduceAdd (shapeCast _ (Host.reduceAdd (mulf (mulf a1 (broadcastInDim S2048x1024 ![0, 1] bcast_S2048x1_S2048x1024_0_1 (Host.rsqrt (meanSq a1)))) a0) (constant S_ .f32 0x00000000#32) reducesTo_S2048x1024_S1024_d0 h_S_) shapeCasts_S1024_S1x1024) (constant S_ .f32 0x00000000#32) reducesTo_S1x1024_S1024_d0 h_S_) shapeCasts_S1024_S1x1024

end Cert.Reference25Ideal.Term

namespace Cert.Kernel25Ideal.Result

open Cert.Kernel25Ideal Cert.Kernel25Ideal.Gen Cert.Reference25Ideal.Term

variable (m : (ℓ : Loc nD τ sig) → Buf (Elt Ideal) ℓ)

/-- The index maps, in the point's number. -/
theorem idx_val : ∀ t : Fin cfg0.N, win0_0.index t = ![t.val, 0]
    ∧ win0_1.index t = ![t.val, 0]
    ∧ win0_2.index t = ![0, 0, 0]
    ∧ win0_3.index t = ![t.val, 0]
    ∧ win0_4.index t = ![t.val, 0]
    ∧ win0_5.index t = ![0, 0] :=
  (by decide +kernel : ∀ t : Fin grid0.N, _)

/-- One block of the input's gradient; the kernel adds the residual's last. -/
theorem point_dx (c : Dev nD) (t : Fin cfg0.N) (y) :
    k0_pay6 (iblk m c 1 t) (iblk m c 2 t) (iblk m c 0 t) (iblk m c 3 t) y
      = dx (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay6, k0_pay4, k0_pay3, dx, pull, gain, meanSq]
  rw [← add_assoc, ← add_assoc]
  blk_point [iblk, V, idx_val t]

theorem final_dx (c : Dev nD) : (dats m 0 c).arrAt 4 (cfgs 0).N = dx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  by_cases h : t.val % 4 = 0
  · rw [outsAt0_A m c t h]; frame_out
    exact point_dx m c t y
  · rw [outsAt0_B m c t h]; frame_out
    exact point_dx m c t y

/-- A row's share of the gain's gradient. -/
def share (x0 dh : EReal) (row : Fin 1024 → EReal) : EReal :=
  x0 * Ideal.rsqrt (Ideal.div (∑ k, row k * row k) (Ideal.ofBits .f32 0x44800000#32) + Ideal.ofBits .f32 0x358637BD#32) * dh

/-- One block's rows, at an index. -/
theorem hpay5 (x0 dh : FVec Ideal S512x1024 .f32) (j) :
    (k0_pay5 (F := Ideal) x0 dh j : EReal) = ∑ r : Fin 512, share (x0 (ix2 r (j 1))) (dh (ix2 r (j 1))) (fun k => x0 (ix2 r k)) := by
  pointwise [k0_pay5, k0_pay4, k0_pay3, share]

/-- Adding it to what is there. -/
theorem hpay2 (v acc : FVec Ideal S1x1024 .f32) (j) :
    (k0_pay2 (F := Ideal) v acc j : EReal) = acc j + v j := by
  pointwise [k0_pay2]

theorem hpay1 (j) : (k0_pay1 (F := Ideal) j : EReal) = 0 := by
  pointwise [k0_pay1]

theorem href (dh x : FVec Ideal S2048x1024 .f32) (j) :
    (dg dh x j : EReal) = ∑ r : Fin 2048, share (x (ix2 r (j 1))) (dh (ix2 r (j 1))) (fun k => x (ix2 r k)) := by
  pointwise [dg, meanSq, share]
  exact Fin.sum_univ_one _

theorem final_dg (c : Dev nD) : (dats m 0 c).arrAt 5 (cfgs 0).N = dg (m ((c : Thread nD τ).loc main_arg0)) (m ((c : Thread nD τ).loc main_arg1)) := by
  refine (dats m 0 c).arrAt_eq_of_after_last 5 t0_3 (by decide +kernel) _ fun j => ?_
  blk_simp
  rw [after0_5, Pipeline.eq_sum_fin_of_reset_step_apply_last (fun n h => (outsAt0 m c n h).2) 4 (fun _ => 0) _
    (fun t h j => by
      rw [outsAt0_A m c t h]; frame_out
      rw [hpay2, hpay1, hpay5])
    (fun t h j => by
      rw [outsAt0_B m c t h]; frame_out
      rw [hpay2, hpay5])
    (le_of_eq N_0) t0_3 rfl j, zero_add, href]
  refine Fin.sum_mul_add_congr fun t k hl => ?_
  blk_point [share, iblk, V, idx_val t]

end Cert.Kernel25Ideal.Result

end
-- ==== Proof.Result26.lean ====
module

public import proofs.«01_k».proof.Proof.Gen.Kernel26Ideal.Frame
public import proofs.«01_k».proof.Proof.Gen.Reference26Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference26Ideal.Term

open Cert.Reference26Ideal Cert.Reference26Ideal.Gen

/-- The logistic function of the gate. -/
def logi (a2 : FVec Ideal S2048x2816 .bf16) : FVec Ideal S2048x2816 .f32 :=
  Host.divf (broadcastInDim S2048x2816 ![] bcast_S_S2048x2816 (constant S_ .f32 0x3F800000#32)) (addf (broadcastInDim S2048x2816 ![] bcast_S_S2048x2816 (constant S_ .f32 0x3F800000#32)) (Host.exp (Host.negf (extf .f32 a2 bitsLt_bf16_f32))))

/-- The gradient before the down-projection. -/
def back (a0 : FVec Ideal S2048x1024 .f32) (a1 : FVec Ideal S2816x1024 .f32) : FVec Ideal S2048x2816 .f32 :=
  Host.dotGeneral dot_S2048x1024_S2816x1024_S2048x2816_1_1_0_0_n_n none a0 a1

/-- The gradient of the gate. -/
def dgate (a0 : FVec Ideal S2048x1024 .f32) (a1 : FVec Ideal S2816x1024 .f32) (a2 a3 : FVec Ideal S2048x2816 .bf16) : FVec Ideal S2048x2816 .f32 :=
  mulf (mulf (back a0 a1) (extf .f32 a3 bitsLt_bf16_f32)) (addf (mulf (broadcastInDim S2048x2816 ![] bcast_S_S2048x2816 (constant S_ .f32 0x3F800000#32)) (logi a2)) (mulf (mulf (extf .f32 a2 bitsLt_bf16_f32) (broadcastInDim S2048x2816 ![] bcast_S_S2048x2816 (constant S_ .f32 0x3F800000#32))) (mulf (logi a2) (subf (broadcastInDim S2048x2816 ![] bcast_S_S2048x2816 (constant S_ .f32 0x3F800000#32)) (logi a2)))))

/-- The gradient of what the gate multiplies. -/
def dup (a0 : FVec Ideal S2048x1024 .f32) (a1 : FVec Ideal S2816x1024 .f32) (a2 : FVec Ideal S2048x2816 .bf16) : FVec Ideal S2048x2816 .f32 :=
  mulf (back a0 a1) (mulf (extf .f32 a2 bitsLt_bf16_f32) (logi a2))

/-- The two side by side. -/
def ref (a0 : FVec Ideal S2048x1024 .f32) (a1 : FVec Ideal S2816x1024 .f32) (a2 a3 : FVec Ideal S2048x2816 .bf16) : FVec Ideal S2048x5632 .bf16 :=
  truncf .bf16 (concatenate S2048x5632 1 [⟨S2048x2816, dgate a0 a1 a2 a3⟩, ⟨S2048x2816, dup a0 a1 a2⟩] concatenates_S2048x2816_S2048x2816_S2048x5632_d1) bitsLt_bf16_f32

end Cert.Reference26Ideal.Term

namespace Cert.Kernel26Ideal.Result

open Cert.Kernel26Ideal Cert.Kernel26Ideal.Gen Cert.Reference26Ideal.Term

variable (m : (ℓ : Loc nD τ sig) → Buf (Elt Ideal) ℓ)

/-- The index maps, in the point's number. -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0] :=
  (by decide +kernel : ∀ t : Fin grid0.N, _)

/-- The column of the written block is the column of the result. -/
theorem col (t : Fin cfg0.N) (y) : ((((cfg0.win 4).blk t).view.emb y) 1).val = (y 1).val := by
  blk_simp [idx_val t]

set_option maxHeartbeats 1600000 in
theorem point (c : Dev nD) (t : Fin cfg0.N) (y) :
    out0_4 (iblk m c 0 t) (iblk m c 1 t) (iblk m c 2 t) (iblk m c 3 t) y
      = ref (m ((c : Thread nD τ).loc main_arg0)) (m ((c : Thread nD τ).loc main_arg1)) (m ((c : Thread nD τ).loc
        main_arg2)) (m ((c : Thread nD τ).loc main_arg3)) (((cfg0.win 4).blk t).view.emb y) := by
  have e := col t y
  canon_tiles x h
  all_goals
    open_payloads; pointwise [ref, dgate, dup, back, logi, Ideal.logistic]
    first
      | rw [dif_pos (by rw [e]; omega)]
      | rw [dif_neg (by rw [e]; omega)]
    try simp only [mul_assoc]
    blk_point [iblk, V, idx_val t]

theorem final (c : Dev nD) : (dats m 0 c).arrAt 4 (cfgs 0).N = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  exact point m c t y

end Cert.Kernel26Ideal.Result

end
-- ==== Proof.Result27.lean ====
module

public import proofs.«01_k».proof.Proof.Gen.Kernel27Ideal.Frame
public import proofs.«01_k».proof.Proof.Gen.Reference27Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference27Ideal.Term

open Cert.Reference27Ideal Cert.Reference27Ideal.Gen

/-- The norm of a group of 256 columns. -/
def norm256 (a : FVec Ideal S2048x256 .f32) (g : FVec Ideal S256 .f32) : FVec Ideal S2048x256 .f32 :=
  mulf (mulf a (broadcastInDim S2048x256 ![0, 1] bcast_S2048x1_S2048x256_0_1 (Host.rsqrt (addf (Host.divf (broadcastInDim S2048x1 ![0] bcast_S2048_S2048x1_0 (Host.reduceAdd (mulf a a) (constant S_ .f32 0x00000000#32) reducesTo_S2048x256_S2048_d1 h_S_)) (broadcastInDim S2048x1 ![] bcast_S_S2048x1 (constant S_ .f32 0x43800000#32))) (broadcastInDim S2048x1 ![] bcast_S_S2048x1 (constant S_ .f32 0x358637BD#32)))))) (broadcastInDim S2048x256 ![0, 1] bcast_S1x256_S2048x256_0_1 (broadcastInDim S1x256 ![1] bcast_S256_S1x256_1 g))

/-- The norm of a group of 512 columns. -/
def norm512 (a : FVec Ideal S2048x512 .f32) (g : FVec Ideal S512 .f32) : FVec Ideal S2048x512 .f32 :=
  mulf (mulf a (broadcastInDim S2048x512 ![0, 1] bcast_S2048x1_S2048x512_0_1 (Host.rsqrt (addf (Host.divf (broadcastInDim S2048x1 ![0] bcast_S2048_S2048x1_0 (Host.reduceAdd (mulf a a) (constant S_ .f32 0x00000000#32) reducesTo_S2048x512_S2048_d1 h_S_)) (broadcastInDim S2048x1 ![] bcast_S_S2048x1 (constant S_ .f32 0x44000000#32))) (broadcastInDim S2048x1 ![] bcast_S_S2048x1 (constant S_ .f32 0x358637BD#32)))))) (broadcastInDim S2048x512 ![0, 1] bcast_S1x512_S2048x512_0_1 (broadcastInDim S1x512 ![1] bcast_S512_S1x512_1 g))

/-- The gain of the first layer. -/
def gain (a3 : FVec Ideal S4x1024 .f32) : FVec Ideal S1024 .f32 :=
  shapeCast _ (extractStridedSlice S1x1024 ![0, 0] a3 slices_S4x1024_S1x1024_0_0) shapeCasts_S1x1024_S1024

/-- The three groups, normed, side by side. -/
def ref (a0 a1 : FVec Ideal S2048x256 .f32) (a2 : FVec Ideal S2048x512 .f32) (a3 : FVec Ideal S4x1024 .f32) : FVec Ideal S2048x1024 .bf16 :=
  truncf .bf16 (concatenate S2048x1024 1 [⟨S2048x256, norm256 a0 (extractStridedSlice S256 ![0] (gain a3) slices_S1024_S256_0)⟩, ⟨S2048x256, norm256 a1 (extractStridedSlice S256 ![256] (gain a3) slices_S1024_S256_256)⟩, ⟨S2048x512, norm512 a2 (extractStridedSlice S512 ![512] (gain a3) slices_S1024_S512_512)⟩] concatenates_S2048x256_S2048x256_S2048x512_S2048x1024_d1) bitsLt_bf16_f32

end Cert.Reference27Ideal.Term

namespace Cert.Kernel27Ideal.Result

open Cert.Kernel27Ideal Cert.Kernel27Ideal.Gen Cert.Reference27Ideal.Term

variable (m : (ℓ : Loc nD τ sig) → Buf (Elt Ideal) ℓ)

/-- The index maps, in the point's number. -/
theorem idx_val : ∀ t : Fin cfg0.N, win0_0.index t = ![t.val, 0]
    ∧ win0_1.index t = ![t.val, 0]
    ∧ win0_2.index t = ![t.val, 0]
    ∧ win0_3.index t = ![0, 0, 0]
    ∧ win0_4.index t = ![t.val, 0] :=
  (by decide +kernel : ∀ t : Fin grid0.N, _)

/-- The column of the written block is the column of the result. -/
theorem col (t : Fin cfg0.N) (y) : ((((cfg0.win 4).blk t).view.emb y) 1).val = (y 1).val := by
  blk_simp [idx_val t]

set_option maxHeartbeats 1600000 in
theorem point (c : Dev nD) (t : Fin cfg0.N) (y) :
    k0_pay1 (iblk m c 2 t) (k0_pay3 (iblk m c 0 t) (iblk m c 3 t)) (k0_pay4 (iblk m c 1 t) (iblk m c 3 t))
        (k0_pay5 (iblk m c 3 t)) (k0_pay6 (iblk m c 2 t)) y
      = ref (m ((c : Thread nD τ).loc main_arg0)) (m ((c : Thread nD τ).loc main_arg1)) (m ((c : Thread nD τ).loc
        main_arg2)) (m ((c : Thread nD τ).loc main_arg3)) (((cfg0.win 4).blk t).view.emb y) := by
  have e := col t y
  pointwise [k0_pay1, k0_pay2, k0_pay3, k0_pay4, k0_pay5, k0_pay6, ref, norm256, norm512, gain]
  by_cases h : (y 1).val < 256
  · rw [dif_pos h, dif_pos (by rw [e]; exact h)]
    blk_point [iblk, V, idx_val t]
  · by_cases h' : (y 1).val - 256 < 256
    · rw [dif_neg h, dif_pos h', dif_neg (by rw [e]; exact h), dif_pos (by rw [e]; exact h')]
      blk_point [iblk, V, idx_val t]
    · rw [dif_neg h, dif_neg h', dif_neg (by rw [e]; exact h), dif_neg (by rw [e]; exact h')]
      blk_point [iblk, V, idx_val t]

theorem final (c : Dev nD) : (dats m 0 c).arrAt 4 (cfgs 0).N = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.Kernel27Ideal.Result

end
-- ==== Proof.lean ====
/- The certificate: every program runs to its end without a fault, leaves its arguments as they were and every
   semaphore counter at zero; the idealized kernels are the kernels; and each of them leaves, over the extended
   reals, what its plain reference leaves. The values are in the modules `Result…`, and the
   attention's claims in `Claim22`; here they are put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference3Ideal.Run
public import proofs.«01_k».proof.Proof.Result3
public import proofs.«01_k».proof.Proof.Gen.Reference4Ideal.Run
public import proofs.«01_k».proof.Proof.Result4
public import proofs.«01_k».proof.Proof.Gen.Reference5Ideal.Run
public import proofs.«01_k».proof.Proof.Result5
public import proofs.«01_k».proof.Proof.Gen.Reference6Ideal.Run
public import proofs.«01_k».proof.Proof.Result6
public import proofs.«01_k».proof.Proof.Gen.Reference7Ideal.Run
public import proofs.«01_k».proof.Proof.Result7
public import proofs.«01_k».proof.Proof.Gen.Reference8Ideal.Run
public import proofs.«01_k».proof.Proof.Result8
public import proofs.«01_k».proof.Proof.Gen.Reference9Ideal.Run
public import proofs.«01_k».proof.Proof.Result9
public import proofs.«01_k».proof.Proof.Gen.Reference13Ideal.Run
public import proofs.«01_k».proof.Proof.Result13
public import proofs.«01_k».proof.Proof.Gen.Reference14Ideal.Run
public import proofs.«01_k».proof.Proof.Result14
public import proofs.«01_k».proof.Proof.Gen.Reference15Ideal.Run
public import proofs.«01_k».proof.Proof.Result15
public import proofs.«01_k».proof.Proof.Gen.Reference16Ideal.Run
public import proofs.«01_k».proof.Proof.Result16
public import proofs.«01_k».proof.Proof.Gen.Reference17Ideal.Run
public import proofs.«01_k».proof.Proof.Result17
public import proofs.«01_k».proof.Proof.Gen.Reference18Ideal.Run
public import proofs.«01_k».proof.Proof.Result18
public import proofs.«01_k».proof.Proof.Gen.Reference19Ideal.Run
public import proofs.«01_k».proof.Proof.Result19
public import proofs.«01_k».proof.Proof.Gen.Reference20Ideal.Run
public import proofs.«01_k».proof.Proof.Result20
public import proofs.«01_k».proof.Proof.Gen.Reference21Ideal.Run
public import proofs.«01_k».proof.Proof.Result21
public import proofs.«01_k».proof.Proof.Claim22
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Reference23Ideal.Run
public import proofs.«01_k».proof.Proof.Result23
public import proofs.«01_k».proof.Proof.Gen.Reference24Ideal.Run
public import proofs.«01_k».proof.Proof.Result24
public import proofs.«01_k».proof.Proof.Gen.Reference25Ideal.Run
public import proofs.«01_k».proof.Proof.Result25
public import proofs.«01_k».proof.Proof.Gen.Reference26Ideal.Run
public import proofs.«01_k».proof.Proof.Result26
public import proofs.«01_k».proof.Proof.Gen.Reference27Ideal.Run
public import proofs.«01_k».proof.Proof.Result27
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference of the gate/up input gradient runs and leaves its arguments alone. -/
theorem frame_reference3 : Cert.quiescent_Reference3Ideal := fun m ρ _ =>
  (θ_run Cert.Reference3Ideal.defs _ _).mono (fun r h => ⟨fun c => ⟨(h c).2.1, (h c).2.2⟩,
      Idealize.ShloMosaic.sem_eq_zero_of_no_sems (by decide) r.2⟩)
    (Cert.Reference3Ideal.Value.run (F := Ideal) m ρ)

/-- Over the extended reals the gate/up input gradient leaves what its reference leaves. -/
theorem algebraic3 : Cert.algebraic_Kernel3Ideal_Reference3Ideal := by
  pair_intro
  · run_from Cert.Kernel3Ideal.Gen.run_main m g
  · run_from Cert.Reference3Ideal.Value.run m' g'
    exact (Cert.Kernel3Ideal.Result.final m c).symm

/-- The reference of the gate/up weight gradient runs and leaves its arguments alone. -/
theorem frame_reference4 : Cert.quiescent_Reference4Ideal := fun m ρ _ =>
  (θ_run Cert.Reference4Ideal.defs _ _).mono (fun r h => ⟨fun c => ⟨(h c).2.1, (h c).2.2⟩,
      Idealize.ShloMosaic.sem_eq_zero_of_no_sems (by decide) r.2⟩)
    (Cert.Reference4Ideal.Value.run (F := Ideal) m ρ)

/-- Over the extended reals the gate/up weight gradient leaves what its reference leaves. -/
theorem algebraic4 : Cert.algebraic_Kernel4Ideal_Reference4Ideal := by
  pair_intro
  · run_from Cert.Kernel4Ideal.Gen.run_main m g
  · run_from Cert.Reference4Ideal.Value.run m' g'
    exact (Cert.Kernel4Ideal.Result.final m c).symm

/-- The reference of the down-projection weight gradient runs and leaves its arguments alone. -/
theorem frame_reference5 : Cert.quiescent_Reference5Ideal := fun m ρ _ =>
  (θ_run Cert.Reference5Ideal.defs _ _).mono (fun r h => ⟨fun c => ⟨(h c).2.1, (h c).2.2⟩,
      Idealize.ShloMosaic.sem_eq_zero_of_no_sems (by decide) r.2⟩)
    (Cert.Reference5Ideal.Value.run (F := Ideal) m ρ)

/-- Over the extended reals the down-projection weight gradient leaves what its reference leaves. -/
theorem algebraic5 : Cert.algebraic_Kernel5Ideal_Reference5Ideal := by
  pair_intro
  · run_from Cert.Kernel5Ideal.Gen.run_main m g
  · run_from Cert.Reference5Ideal.Value.run m' g'
    exact (Cert.Kernel5Ideal.Result.final m c).symm

/-- The reference of the in-projection input gradient runs and leaves its arguments alone. -/
theorem frame_reference6 : Cert.quiescent_Reference6Ideal := fun m ρ _ =>
  (θ_run Cert.Reference6Ideal.defs _ _).mono (fun r h => ⟨fun c => ⟨(h c).2.1, (h c).2.2⟩,
      Idealize.ShloMosaic.sem_eq_zero_of_no_sems (by decide) r.2⟩)
    (Cert.Reference6Ideal.Value.run (F := Ideal) m ρ)

/-- Over the extended reals the in-projection input gradient leaves what its reference leaves. -/
theorem algebraic6 : Cert.algebraic_Kernel6Ideal_Reference6Ideal := by
  pair_intro
  · run_from Cert.Kernel6Ideal.Gen.run_main m g
  · run_from Cert.Reference6Ideal.Value.run m' g'
    exact (Cert.Kernel6Ideal.Result.final m c).symm

/-- The reference of the in-projection weight gradient runs and leaves its arguments alone. -/
theorem frame_reference7 : Cert.quiescent_Reference7Ideal := fun m ρ _ =>
  (θ_run Cert.Reference7Ideal.defs _ _).mono (fun r h => ⟨fun c => ⟨(h c).2.1, (h c).2.2⟩,
      Idealize.ShloMosaic.sem_eq_zero_of_no_sems (by decide) r.2⟩)
    (Cert.Reference7Ideal.Value.run (F := Ideal) m ρ)

/-- Over the extended reals the in-projection weight gradient leaves what its reference leaves. -/
theorem algebraic7 : Cert.algebraic_Kernel7Ideal_Reference7Ideal := by
  pair_intro
  · run_from Cert.Kernel7Ideal.Gen.run_main m g
  · run_from Cert.Reference7Ideal.Value.run m' g'
    exact (Cert.Kernel7Ideal.Result.final m c).symm

/-- The reference of the out-projection input gradient runs and leaves its arguments alone. -/
theorem frame_reference8 : Cert.quiescent_Reference8Ideal := fun m ρ _ =>
  (θ_run Cert.Reference8Ideal.defs _ _).mono (fun r h => ⟨fun c => ⟨(h c).2.1, (h c).2.2⟩,
      Idealize.ShloMosaic.sem_eq_zero_of_no_sems (by decide) r.2⟩)
    (Cert.Reference8Ideal.Value.run (F := Ideal) m ρ)

/-- Over the extended reals the out-projection input gradient leaves what its reference leaves. -/
theorem algebraic8 : Cert.algebraic_Kernel8Ideal_Reference8Ideal := by
  pair_intro
  · run_from Cert.Kernel8Ideal.Gen.run_main m g
  · run_from Cert.Reference8Ideal.Value.run m' g'
    exact (Cert.Kernel8Ideal.Result.final m c).symm

/-- The reference of the out-projection weight gradient runs and leaves its arguments alone. -/
theorem frame_reference9 : Cert.quiescent_Reference9Ideal := fun m ρ _ =>
  (θ_run Cert.Reference9Ideal.defs _ _).mono (fun r h => ⟨fun c => ⟨(h c).2.1, (h c).2.2⟩,
      Idealize.ShloMosaic.sem_eq_zero_of_no_sems (by decide) r.2⟩)
    (Cert.Reference9Ideal.Value.run (F := Ideal) m ρ)

/-- Over the extended reals the out-projection weight gradient leaves what its reference leaves. -/
theorem algebraic9 : Cert.algebraic_Kernel9Ideal_Reference9Ideal := by
  pair_intro
  · run_from Cert.Kernel9Ideal.Gen.run_main m g
  · run_from Cert.Reference9Ideal.Value.run m' g'
    exact (Cert.Kernel9Ideal.Result.final m c).symm

/-- The reference of the gate/up forward call with its gate runs and leaves its arguments alone. -/
theorem frame_reference13 : Cert.quiescent_Reference13Ideal := fun m ρ _ =>
  (θ_run Cert.Reference13Ideal.defs _ _).mono (fun r h => ⟨fun c => ⟨(h c).2.2.2.1, (h c).2.2.2.2⟩,
      Idealize.ShloMosaic.sem_eq_zero_of_no_sems (by decide) r.2⟩)
    (Cert.Reference13Ideal.Value.run (F := Ideal) m ρ)

/-- Over the extended reals the gate/up forward call with its gate leaves what its reference leaves. -/
theorem algebraic13 : Cert.algebraic_Kernel13Ideal_Reference13Ideal := by
  pair_intro
  · run_from Cert.Kernel13Ideal.Gen.run_main m g
  · run_from Cert.Reference13Ideal.Value.run m' g'
    · exact (Cert.Kernel13Ideal.Result.final_3 m c).symm
    · exact (Cert.Kernel13Ideal.Result.final_4 m c).symm
    · exact (Cert.Kernel13Ideal.Result.final_5 m c).symm

/-- The reference of the in-projection runs and leaves its arguments alone. -/
theorem frame_reference14 : Cert.quiescent_Reference14Ideal := fun m ρ _ =>
  (θ_run Cert.Reference14Ideal.defs _ _).mono (fun r h => ⟨fun c => ⟨(h c).2.1, (h c).2.2⟩,
      Idealize.ShloMosaic.sem_eq_zero_of_no_sems (by decide) r.2⟩)
    (Cert.Reference14Ideal.Value.run (F := Ideal) m ρ)

/-- Over the extended reals the in-projection leaves what its reference leaves. -/
theorem algebraic14 : Cert.algebraic_Kernel14Ideal_Reference14Ideal := by
  pair_intro
  · run_from Cert.Kernel14Ideal.Gen.run_main m g
  · run_from Cert.Reference14Ideal.Value.run m' g'
    exact (Cert.Kernel14Ideal.Result.final m c).symm

/-- The reference of the down-projection with its residual runs and leaves its arguments alone. -/
theorem frame_reference15 : Cert.quiescent_Reference15Ideal := fun m ρ _ =>
  (θ_run Cert.Reference15Ideal.defs _ _).mono (fun r h => ⟨fun c => ⟨(h c).2.1, (h c).2.2.1, (h c).2.2.2⟩,
      Idealize.ShloMosaic.sem_eq_zero_of_no_sems (by decide) r.2⟩)
    (Cert.Reference15Ideal.Value.run (F := Ideal) m ρ)

/-- Over the extended reals the down-projection with its residual leaves what its reference leaves. -/
theorem algebraic15 : Cert.algebraic_Kernel15Ideal_Reference15Ideal := by
  pair_intro
  · run_from Cert.Kernel15Ideal.Gen.run_main m g
  · run_from Cert.Reference15Ideal.Value.run m' g'
    exact (Cert.Kernel15Ideal.Result.final m c).symm

/-- The reference of the out-projection with its residual runs and leaves its arguments alone. -/
theorem frame_reference16 : Cert.quiescent_Reference16Ideal := fun m ρ _ =>
  (θ_run Cert.Reference16Ideal.defs _ _).mono (fun r h => ⟨fun c => ⟨(h c).2.1, (h c).2.2.1, (h c).2.2.2⟩,
      Idealize.ShloMosaic.sem_eq_zero_of_no_sems (by decide) r.2⟩)
    (Cert.Reference16Ideal.Value.run (F := Ideal) m ρ)

/-- Over the extended reals the out-projection with its residual leaves what its reference leaves. -/
theorem algebraic16 : Cert.algebraic_Kernel16Ideal_Reference16Ideal := by
  pair_intro
  · run_from Cert.Kernel16Ideal.Gen.run_main m g
  · run_from Cert.Reference16Ideal.Value.run m' g'
    exact (Cert.Kernel16Ideal.Result.final m c).symm

/-- The reference of the optimiser step of the packed small weights runs and leaves its arguments alone. -/
theorem frame_reference17 : Cert.quiescent_Reference17Ideal := fun m ρ _ =>
  (θ_run Cert.Reference17Ideal.defs _ _).mono (fun r h => ⟨fun c => ⟨(h c).2.2.2.1, (h c).2.2.2.2.1, (h c).2.2.2.2.2.1, (h c).2.2.2.2.2.2⟩,
      Idealize.ShloMosaic.sem_eq_zero_of_no_sems (by decide) r.2⟩)
    (Cert.Reference17Ideal.Value.run (F := Ideal) m ρ)

/-- Over the extended reals the optimiser step of the packed small weights leaves what its reference leaves. -/
theorem algebraic17 : Cert.algebraic_Kernel17Ideal_Reference17Ideal := by
  pair_intro
  · run_from Cert.Kernel17Ideal.Gen.run_main m g
  · run_from Cert.Reference17Ideal.Value.run m' g'
    all_goals obtain ⟨h0, h1, h2, h3⟩ := hagree c
    all_goals ((try rw [h0]); (try rw [h1]); (try rw [h2]); (try rw [h3]))
    · exact (Cert.Kernel17Ideal.Result.final_4 m c).symm
    · exact (Cert.Kernel17Ideal.Result.final_5 m c).symm
    · exact (Cert.Kernel17Ideal.Result.final_6 m c).symm

/-- The reference of the optimiser step of the in-projection weight runs and leaves its arguments alone. -/
theorem frame_reference18 : Cert.quiescent_Reference18Ideal := fun m ρ _ =>
  (θ_run Cert.Reference18Ideal.defs _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
      Idealize.ShloMosaic.sem_eq_zero_of_no_sems (by decide) r.2⟩)
    (Cert.Reference18Ideal.Value.run (F := Ideal) m ρ)

/-- Over the extended reals the optimiser step of the in-projection weight leaves what its reference leaves. -/
theorem algebraic18 : Cert.algebraic_Kernel18Ideal_Reference18Ideal := by
  pair_intro
  · run_from Cert.Kernel18Ideal.Gen.run_main m g
  · run_from Cert.Reference18Ideal.Value.run m' g'
    all_goals obtain ⟨h0, h1, h2, h3, h4, h5, h6, h7⟩ := hagree c
    all_goals ((try rw [h0]); (try rw [h1]); (try rw [h2]); (try rw [h3]); (try rw [h4]); (try rw [h5]); (try rw [h6]); (try rw [h7]))
    · exact (Cert.Kernel18Ideal.Result.final_4 m c).symm
    · exact (Cert.Kernel18Ideal.Result.final_5 m c).symm
    · exact (Cert.Kernel18Ideal.Result.final_6 m c).symm
    · exact (Cert.Kernel18Ideal.Result.final_7 m c).symm

/-- The reference of the optimiser step of the out-projection weight runs and leaves its arguments alone. -/
theorem frame_reference19 : Cert.quiescent_Reference19Ideal := fun m ρ _ =>
  (θ_run Cert.Reference19Ideal.defs _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
      Idealize.ShloMosaic.sem_eq_zero_of_no_sems (by decide) r.2⟩)
    (Cert.Reference19Ideal.Value.run (F := Ideal) m ρ)

/-- Over the extended reals the optimiser step of the out-projection weight leaves what its reference leaves. -/
theorem algebraic19 : Cert.algebraic_Kernel19Ideal_Reference19Ideal := by
  pair_intro
  · run_from Cert.Kernel19Ideal.Gen.run_main m g
  · run_from Cert.Reference19Ideal.Value.run m' g'
    all_goals obtain ⟨h0, h1, h2, h3, h4, h5, h6, h7⟩ := hagree c
    all_goals ((try rw [h0]); (try rw [h1]); (try rw [h2]); (try rw [h3]); (try rw [h4]); (try rw [h5]); (try rw [h6]); (try rw [h7]))
    · exact (Cert.Kernel19Ideal.Result.final_4 m c).symm
    · exact (Cert.Kernel19Ideal.Result.final_5 m c).symm
    · exact (Cert.Kernel19Ideal.Result.final_6 m c).symm
    · exact (Cert.Kernel19Ideal.Result.final_7 m c).symm

/-- The reference of the optimiser step of the gate and up weight runs and leaves its arguments alone. -/
theorem frame_reference20 : Cert.quiescent_Reference20Ideal := fun m ρ _ =>
  (θ_run Cert.Reference20Ideal.defs _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
      Idealize.ShloMosaic.sem_eq_zero_of_no_sems (by decide) r.2⟩)
    (Cert.Reference20Ideal.Value.run (F := Ideal) m ρ)

/-- Over the extended reals the optimiser step of the gate and up weight leaves what its reference leaves. -/
theorem algebraic20 : Cert.algebraic_Kernel20Ideal_Reference20Ideal := by
  pair_intro
  · run_from Cert.Kernel20Ideal.Gen.run_main m g
  · run_from Cert.Reference20Ideal.Value.run m' g'
    all_goals obtain ⟨h0, h1, h2, h3, h4, h5, h6, h7⟩ := hagree c
    all_goals ((try rw [h0]); (try rw [h1]); (try rw [h2]); (try rw [h3]); (try rw [h4]); (try rw [h5]); (try rw [h6]); (try rw [h7]))
    · exact (Cert.Kernel20Ideal.Result.final_4 m c).symm
    · exact (Cert.Kernel20Ideal.Result.final_5 m c).symm
    · exact (Cert.Kernel20Ideal.Result.final_6 m c).symm
    · exact (Cert.Kernel20Ideal.Result.final_7 m c).symm

/-- The reference of the optimiser step of the down-projection weight runs and leaves its arguments alone. -/
theorem frame_reference21 : Cert.quiescent_Reference21Ideal := fun m ρ _ =>
  (θ_run Cert.Reference21Ideal.defs _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
      Idealize.ShloMosaic.sem_eq_zero_of_no_sems (by decide) r.2⟩)
    (Cert.Reference21Ideal.Value.run (F := Ideal) m ρ)

/-- Over the extended reals the optimiser step of the down-projection weight leaves what its reference leaves. -/
theorem algebraic21 : Cert.algebraic_Kernel21Ideal_Reference21Ideal := by
  pair_intro
  · run_from Cert.Kernel21Ideal.Gen.run_main m g
  · run_from Cert.Reference21Ideal.Value.run m' g'
    all_goals obtain ⟨h0, h1, h2, h3, h4, h5, h6, h7⟩ := hagree c
    all_goals ((try rw [h0]); (try rw [h1]); (try rw [h2]); (try rw [h3]); (try rw [h4]); (try rw [h5]); (try rw [h6]); (try rw [h7]))
    · exact (Cert.Kernel21Ideal.Result.final_4 m c).symm
    · exact (Cert.Kernel21Ideal.Result.final_5 m c).symm
    · exact (Cert.Kernel21Ideal.Result.final_6 m c).symm
    · exact (Cert.Kernel21Ideal.Result.final_7 m c).symm

/-- The reference of the first norm runs and leaves its arguments alone. -/
theorem frame_reference23 : Cert.quiescent_Reference23Ideal := fun m ρ _ =>
  (θ_run Cert.Reference23Ideal.defs _ _).mono (fun r h => ⟨fun c => ⟨(h c).2.1, (h c).2.2⟩,
      Idealize.ShloMosaic.sem_eq_zero_of_no_sems (by decide) r.2⟩)
    (Cert.Reference23Ideal.Value.run (F := Ideal) m ρ)

/-- Over the extended reals the first norm leaves what its reference leaves. -/
theorem algebraic23 : Cert.algebraic_Kernel23Ideal_Reference23Ideal := by
  pair_intro
  · run_from Cert.Kernel23Ideal.Gen.run_main m g
  · run_from Cert.Reference23Ideal.Value.run m' g'
    exact (Cert.Kernel23Ideal.Result.final m c).symm

/-- The reference of the loss head runs and leaves its arguments alone. -/
theorem frame_reference24 : Cert.quiescent_Reference24Ideal := fun m ρ _ =>
  (θ_run Cert.Reference24Ideal.defs _ _).mono (fun r h => ⟨fun c => ⟨(h c).2.2.1, (h c).2.2.2⟩,
      Idealize.ShloMosaic.sem_eq_zero_of_no_sems (by decide) r.2⟩)
    (Cert.Reference24Ideal.Value.run (F := Ideal) m ρ)

/-- Over the extended reals the loss head leaves what its reference leaves. -/
theorem algebraic24 : Cert.algebraic_Kernel24Ideal_Reference24Ideal := by
  pair_intro
  · run_from Cert.Kernel24Ideal.Gen.run_main m g
  · run_from Cert.Reference24Ideal.Value.run m' g'
    · exact (Cert.Kernel24Ideal.Result.final_dy m c).symm
    · exact (Cert.Kernel24Ideal.Result.final_loss m c).symm

/-- The reference of the first norm's backward call runs and leaves its arguments alone. -/
theorem frame_reference25 : Cert.quiescent_Reference25Ideal := fun m ρ _ =>
  (θ_run Cert.Reference25Ideal.defs _ _).mono (fun r h => ⟨fun c => ⟨(h c).2.2.1, (h c).2.2.2.1, (h c).2.2.2.2.1, (h c).2.2.2.2.2⟩,
      Idealize.ShloMosaic.sem_eq_zero_of_no_sems (by decide) r.2⟩)
    (Cert.Reference25Ideal.Value.run (F := Ideal) m ρ)

/-- Over the extended reals the first norm's backward call leaves what its reference leaves. -/
theorem algebraic25 : Cert.algebraic_Kernel25Ideal_Reference25Ideal := by
  pair_intro
  · run_from Cert.Kernel25Ideal.Gen.run_main m g
  · run_from Cert.Reference25Ideal.Value.run m' g'
    · obtain ⟨h0, h1, h2, h3⟩ := hagree c
      unfold Cert.Reference25Ideal.Value.res_main_v38
      rw [h0, h1, h2, h3]
      exact (Cert.Kernel25Ideal.Result.final_dx m c).symm
    · exact (Cert.Kernel25Ideal.Result.final_dg m c).symm

/-- The reference of the gate and down-projection backward call runs and leaves its arguments alone. -/
theorem frame_reference26 : Cert.quiescent_Reference26Ideal := fun m ρ _ =>
  (θ_run Cert.Reference26Ideal.defs _ _).mono (fun r h => ⟨fun c => ⟨(h c).2.1, (h c).2.2.1, (h c).2.2.2.1, (h c).2.2.2.2⟩,
      Idealize.ShloMosaic.sem_eq_zero_of_no_sems (by decide) r.2⟩)
    (Cert.Reference26Ideal.Value.run (F := Ideal) m ρ)

/-- Over the extended reals the gate and down-projection backward call leaves what its reference leaves. -/
theorem algebraic26 : Cert.algebraic_Kernel26Ideal_Reference26Ideal := by
  pair_intro
  · run_from Cert.Kernel26Ideal.Gen.run_main m g
  · run_from Cert.Reference26Ideal.Value.run m' g'
    obtain ⟨-, -, -, h3⟩ := hagree c
    rw [h3]
    exact (Cert.Kernel26Ideal.Result.final m c).symm

/-- The reference of the output norm runs and leaves its arguments alone. -/
theorem frame_reference27 : Cert.quiescent_Reference27Ideal := fun m ρ _ =>
  (θ_run Cert.Reference27Ideal.defs _ _).mono (fun r h => ⟨fun c => ⟨(h c).2.1, (h c).2.2.1, (h c).2.2.2.1, (h c).2.2.2.2⟩,
      Idealize.ShloMosaic.sem_eq_zero_of_no_sems (by decide) r.2⟩)
    (Cert.Reference27Ideal.Value.run (F := Ideal) m ρ)

/-- Over the extended reals the output norm leaves what its reference leaves. -/
theorem algebraic27 : Cert.algebraic_Kernel27Ideal_Reference27Ideal := by
  pair_intro
  · run_from Cert.Kernel27Ideal.Gen.run_main m g
  · run_from Cert.Reference27Ideal.Value.run m' g'
    obtain ⟨h0, h1, h2, h3⟩ := hagree c
    (try rw [h0]); (try rw [h1]); (try rw [h2]); (try rw [h3])
    exact (Cert.Kernel27Ideal.Result.final m c).symm

/-- All the claims. -/
theorem claim : Cert.Claim :=
  ⟨Cert.Kernel.Gen.facts,
   Cert.KernelIdeal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel13.Gen.facts,
   Cert.Kernel13Ideal.Gen.facts,
   Cert.Reference13Ideal.Gen.facts,
   Cert.Kernel14.Gen.facts,
   Cert.Kernel14Ideal.Gen.facts,
   Cert.Reference14Ideal.Gen.facts,
   Cert.Kernel15.Gen.facts,
   Cert.Kernel15Ideal.Gen.facts,
   Cert.Reference15Ideal.Gen.facts,
   Cert.Kernel16.Gen.facts,
   Cert.Kernel16Ideal.Gen.facts,
   Cert.Reference16Ideal.Gen.facts,
   Cert.Kernel17.Gen.facts,
   Cert.Kernel17Ideal.Gen.facts,
   Cert.Reference17Ideal.Gen.facts,
   Cert.Kernel18.Gen.facts,
   Cert.Kernel18Ideal.Gen.facts,
   Cert.Reference18Ideal.Gen.facts,
   Cert.Kernel19.Gen.facts,
   Cert.Kernel19Ideal.Gen.facts,
   Cert.Reference19Ideal.Gen.facts,
   Cert.Kernel20.Gen.facts,
   Cert.Kernel20Ideal.Gen.facts,
   Cert.Reference20Ideal.Gen.facts,
   Cert.Kernel21.Gen.facts,
   Cert.Kernel21Ideal.Gen.facts,
   Cert.Reference21Ideal.Gen.facts,
   Cert.Kernel22.Gen.facts,
   Cert.Kernel22Ideal.Gen.facts,
   Cert.Reference22Ideal.Gen.facts,
   Cert.Kernel23.Gen.facts,
   Cert.Kernel23Ideal.Gen.facts,
   Cert.Reference23Ideal.Gen.facts,
   Cert.Kernel24.Gen.facts,
   Cert.Kernel24Ideal.Gen.facts,
   Cert.Reference24Ideal.Gen.facts,
   Cert.Kernel25.Gen.facts,
   Cert.Kernel25Ideal.Gen.facts,
   Cert.Reference25Ideal.Gen.facts,
   Cert.Kernel26.Gen.facts,
   Cert.Kernel26Ideal.Gen.facts,
   Cert.Reference26Ideal.Gen.facts,
   Cert.Kernel27.Gen.facts,
   Cert.Kernel27Ideal.Gen.facts,
   Cert.Reference27Ideal.Gen.facts,
   Cert.Pre_finite_qk.Gen.facts,
   fun m ρ _ => Cert.Kernel.Gen.frame m ρ,
   fun m ρ _ => Cert.KernelIdeal.Gen.frame m ρ,
   fun m ρ _ => Cert.Kernel3.Gen.frame m ρ,
   fun m ρ _ => Cert.Kernel3Ideal.Gen.frame m ρ,
   frame_reference3,
   fun m ρ _ => Cert.Kernel4.Gen.frame m ρ,
   fun m ρ _ => Cert.Kernel4Ideal.Gen.frame m ρ,
   frame_reference4,
   fun m ρ _ => Cert.Kernel5.Gen.frame m ρ,
   fun m ρ _ => Cert.Kernel5Ideal.Gen.frame m ρ,
   frame_reference5,
   fun m ρ _ => Cert.Kernel6.Gen.frame m ρ,
   fun m ρ _ => Cert.Kernel6Ideal.Gen.frame m ρ,
   frame_reference6,
   fun m ρ _ => Cert.Kernel7.Gen.frame m ρ,
   fun m ρ _ => Cert.Kernel7Ideal.Gen.frame m ρ,
   frame_reference7,
   fun m ρ _ => Cert.Kernel8.Gen.frame m ρ,
   fun m ρ _ => Cert.Kernel8Ideal.Gen.frame m ρ,
   frame_reference8,
   fun m ρ _ => Cert.Kernel9.Gen.frame m ρ,
   fun m ρ _ => Cert.Kernel9Ideal.Gen.frame m ρ,
   frame_reference9,
   fun m ρ _ => Cert.Kernel13.Gen.frame m ρ,
   fun m ρ _ => Cert.Kernel13Ideal.Gen.frame m ρ,
   frame_reference13,
   fun m ρ _ => Cert.Kernel14.Gen.frame m ρ,
   fun m ρ _ => Cert.Kernel14Ideal.Gen.frame m ρ,
   frame_reference14,
   fun m ρ _ => Cert.Kernel15.Gen.frame m ρ,
   fun m ρ _ => Cert.Kernel15Ideal.Gen.frame m ρ,
   frame_reference15,
   fun m ρ _ => Cert.Kernel16.Gen.frame m ρ,
   fun m ρ _ => Cert.Kernel16Ideal.Gen.frame m ρ,
   frame_reference16,
   fun m ρ _ => Cert.Kernel17.Gen.frame m ρ,
   fun m ρ _ => Cert.Kernel17Ideal.Gen.frame m ρ,
   frame_reference17,
   fun m ρ _ => Cert.Kernel18.Gen.frame m ρ,
   fun m ρ _ => Cert.Kernel18Ideal.Gen.frame m ρ,
   frame_reference18,
   fun m ρ _ => Cert.Kernel19.Gen.frame m ρ,
   fun m ρ _ => Cert.Kernel19Ideal.Gen.frame m ρ,
   frame_reference19,
   fun m ρ _ => Cert.Kernel20.Gen.frame m ρ,
   fun m ρ _ => Cert.Kernel20Ideal.Gen.frame m ρ,
   frame_reference20,
   fun m ρ _ => Cert.Kernel21.Gen.frame m ρ,
   fun m ρ _ => Cert.Kernel21Ideal.Gen.frame m ρ,
   frame_reference21,
   frame_kernel22,
   frame_kernel22Ideal,
   frame_kernel22Ideal_pre,
   frame_reference22,
   frame_reference22_pre,
   fun m ρ _ => Cert.Kernel23.Gen.frame m ρ,
   fun m ρ _ => Cert.Kernel23Ideal.Gen.frame m ρ,
   frame_reference23,
   fun m ρ _ => Cert.Kernel24.Gen.frame m ρ,
   fun m ρ _ => Cert.Kernel24Ideal.Gen.frame m ρ,
   frame_reference24,
   fun m ρ _ => Cert.Kernel25.Gen.frame m ρ,
   fun m ρ _ => Cert.Kernel25Ideal.Gen.frame m ρ,
   frame_reference25,
   fun m ρ _ => Cert.Kernel26.Gen.frame m ρ,
   fun m ρ _ => Cert.Kernel26Ideal.Gen.frame m ρ,
   frame_reference26,
   fun m ρ _ => Cert.Kernel27.Gen.frame m ρ,
   fun m ρ _ => Cert.Kernel27Ideal.Gen.frame m ρ,
   frame_reference27,
   trivial,
   trivial,
   algebraic3,
   trivial,
   algebraic4,
   trivial,
   algebraic5,
   trivial,
   algebraic6,
   trivial,
   algebraic7,
   trivial,
   algebraic8,
   trivial,
   algebraic9,
   trivial,
   algebraic13,
   trivial,
   algebraic14,
   trivial,
   algebraic15,
   trivial,
   algebraic16,
   trivial,
   algebraic17,
   trivial,
   algebraic18,
   trivial,
   algebraic19,
   trivial,
   algebraic20,
   trivial,
   algebraic21,
   trivial,
   algebraic22,
   trivial,
   algebraic23,
   trivial,
   algebraic24,
   trivial,
   algebraic25,
   trivial,
   algebraic26,
   trivial,
   algebraic27⟩

end Cert.Proof

end
